-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S_ : Shape := ⟨0, ![]⟩
abbrev S256x256 : Shape := ⟨2, ![256, 256]⟩
abbrev S256 : Shape := ⟨1, ![256]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x2048x256 .f32) (main_arg1 : FVec F S_ .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S4x2048x256 : Shape := ⟨3, ![4, 2048, 256]⟩
abbrev S_ : Shape := ⟨0, ![]⟩
abbrev S256x256 : Shape := ⟨2, ![256, 256]⟩
abbrev S256 : Shape := ⟨1, ![256]⟩
abbrev S8192x256 : Shape := ⟨2, ![8192, 256]⟩
abbrev S1x256 : Shape := ⟨2, ![1, 256]⟩
abbrev S2048x256 : Shape := ⟨2, ![2048, 256]⟩
abbrev S4x2048 : Shape := ⟨2, ![4, 2048]⟩
abbrev S4x2048x1 : Shape := ⟨3, ![4, 2048, 1]⟩
abbrev S4x1x2048 : Shape := ⟨3, ![4, 1, 2048]⟩
abbrev S4x2048x5 : Shape := ⟨3, ![4, 2048, 5]⟩
abbrev S1x1024x256 : Shape := ⟨3, ![1, 1024, 256]⟩
abbrev S1x2048x256 : Shape := ⟨3, ![1, 2048, 256]⟩
abbrev S1x1024x1 : Shape := ⟨3, ![1, 1024, 1]⟩
abbrev S1x1x2048 : Shape := ⟨3, ![1, 1, 2048]⟩
abbrev S1x1024x5 : Shape := ⟨3, ![1, 1024, 5]⟩
abbrev S1024x256 : Shape := ⟨2, ![1024, 256]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S1024x5 : Shape := ⟨2, ![1024, 5]⟩
abbrev S4x10240 : Shape := ⟨2, ![4, 10240]⟩
abbrev S2048 : Shape := ⟨1, ![2048]⟩
abbrev S1x2048x1 : Shape := ⟨3, ![1, 2048, 1]⟩
abbrev S4x10240x1 : Shape := ⟨3, ![4, 10240, 1]⟩
abbrev S4x10240x2 : Shape := ⟨3, ![4, 10240, 2]⟩

abbrev nBuf : Space → Nat
  | .hbm => 42
  | .vmem => 22
  | .smem => 0
  | _ => 0

abbrev bufTy : (tb : Table) → Fin (tcTables nBuf tb) → BufTy
  | .hbm, ⟨0, _⟩ => ⟨S4x2048x256, .f32⟩
  | .hbm, ⟨1, _⟩ => ⟨S_, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8192x256, .f32⟩
  | .hbm, ⟨9, _⟩ => ⟨S256x256, .f32⟩
  | .hbm, ⟨10, _⟩ => ⟨S1x256, .f32⟩
  | .hbm, ⟨11, _⟩ => ⟨S256x256, .f32⟩
  | .hbm, ⟨12, _⟩ => ⟨S1x256, .f32⟩
  | .hbm, ⟨13, _⟩ => ⟨S256x256, .f32⟩
  | .hbm, ⟨14, _⟩ => ⟨S1x256, .f32⟩
  | .hbm, ⟨15, _⟩ => ⟨S8192x256, .f32⟩
  | .hbm, ⟨16, _⟩ => ⟨S4x2048x256, .f32⟩
  | .hbm, ⟨17, _⟩ => ⟨S4x2048x256, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x1x2048, .f32⟩
  | .hbm, ⟨22, _⟩ => ⟨S4x2048x5, .f32⟩
  | .hbm, ⟨23, _⟩ => ⟨S4x2048x5, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x2048x5, .f32⟩
  | .hbm, ⟨32, _⟩ => ⟨S4x2048x5, .f32⟩
  | .hbm, ⟨33, _⟩ => ⟨S4x2048x5, .f32⟩
  | .hbm, ⟨34, _⟩ => ⟨S4x10240, .i32⟩
  | .hbm, ⟨35, _⟩ => ⟨S2048, .i32⟩
  | .hbm, ⟨36, _⟩ => ⟨S1x2048x1, .i32⟩
  | .hbm, ⟨37, _⟩ => ⟨S4x2048x5, .i32⟩
  | .hbm, ⟨38, _⟩ => ⟨S4x10240, .i32⟩
  | .hbm, ⟨39, _⟩ => ⟨S4x10240x1, .i32⟩
  | .hbm, ⟨40, _⟩ => ⟨S4x10240x1, .i32⟩
  | .hbm, ⟨41, _⟩ => ⟨S4x10240x2, .i32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S1x1024x256, .f32⟩
  | .local _ .vmem, ⟨11, _⟩ => ⟨S1x1024x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1024x1, .f32⟩
  | .local _ .vmem, ⟨15, _⟩ => ⟨S1x1024x1, .f32⟩
  | .local _ .vmem, ⟨16, _⟩ => ⟨S1x1x2048, .f32⟩
  | .local _ .vmem, ⟨17, _⟩ => ⟨S1x1x2048, .f32⟩
  | .local _ .vmem, ⟨18, _⟩ => ⟨S1x1024x5, .f32⟩
  | .local _ .vmem, ⟨19, _⟩ => ⟨S1x1024x5, .f32⟩
  | .local _ .vmem, ⟨20, _⟩ => ⟨S1x1024x5, .i32⟩
  | .local _ .vmem, ⟨21, _⟩ => ⟨S1x1024x5, .i32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x5 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x5 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4x2048x256 : Shape := ⟨3, ![4, 2048, 256]⟩
abbrev S_ : Shape := ⟨0, ![]⟩
abbrev S256x256 : Shape := ⟨2, ![256, 256]⟩
abbrev S256 : Shape := ⟨1, ![256]⟩
abbrev S1x1x256 : Shape := ⟨3, ![1, 1, 256]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x2048x5 : Shape := ⟨3, ![4, 2048, 5]⟩
abbrev S4x10240 : Shape := ⟨2, ![4, 10240]⟩
abbrev S4x10240x1 : Shape := ⟨3, ![4, 10240, 1]⟩
abbrev S4x10240x256 : Shape := ⟨3, ![4, 10240, 256]⟩
abbrev S4x10240x256x1 : Shape := ⟨4, ![4, 10240, 256, 1]⟩
abbrev S1 : Shape := ⟨1, ![1]⟩
abbrev S1x1x1x1 : Shape := ⟨4, ![1, 1, 1, 1]⟩
abbrev S4x2048x1x256 : Shape := ⟨4, ![4, 2048, 1, 256]⟩
abbrev S4x2048x1x5x256 : Shape := ⟨5, ![4, 2048, 1, 5, 256]⟩
abbrev S4x2048x5x256 : Shape := ⟨4, ![4, 2048, 5, 256]⟩
abbrev S2048 : Shape := ⟨1, ![2048]⟩
abbrev S1x2048x1 : Shape := ⟨3, ![1, 2048, 1]⟩
abbrev S4x10240x2 : Shape := ⟨3, ![4, 10240, 2]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S_, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S4x2048x256, .f32⟩
  | .hbm, ⟨10, _⟩ => ⟨S1x1x256, .f32⟩
  | .hbm, ⟨11, _⟩ => ⟨S4x2048x256, .f32⟩
  | .hbm, ⟨12, _⟩ => ⟨S4x2048x256, .f32⟩
  | .hbm, ⟨13, _⟩ => ⟨S_, .f32⟩
  | .hbm, ⟨14, _⟩ => ⟨S4x2048x256, .f32⟩
  | .hbm, ⟨15, _⟩ => ⟨S4x2048x256, .f32⟩
  | .hbm, ⟨16, _⟩ => ⟨S256x256, .f32⟩
  | .hbm, ⟨17, _⟩ => ⟨S4x2048x256, .f32⟩
  | .hbm, ⟨18, _⟩ => ⟨S1x1x256, .f32⟩
  | .hbm, ⟨19, _⟩ => ⟨S4x2048x256, .f32⟩
  | .hbm, ⟨20, _⟩ => ⟨S4x2048x256, .f32⟩
  | .hbm, ⟨21, _⟩ => ⟨S_, .f32⟩
  | .hbm, ⟨22, _⟩ => ⟨S4x2048x256, .f32⟩
  | .hbm, ⟨23, _⟩ => ⟨S4x2048x256, .f32⟩
  | .hbm, ⟨24, _⟩ => ⟨S256x256, .f32⟩
  | .hbm, ⟨25, _⟩ => ⟨S4x2048x256, .f32⟩
  | .hbm, ⟨26, _⟩ => ⟨S1x1x256, .f32⟩
  | .hbm, ⟨27, _⟩ => ⟨S4x2048x256, .f32⟩
  | .hbm, ⟨28, _⟩ => ⟨S4x2048x256, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x2048x256, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x1x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S4x2048x5, .f32⟩
  | .hbm, ⟨56, _⟩ => ⟨S4x2048x5, .i32⟩
  | .hbm, ⟨57, _⟩ => ⟨S4x10240, .i32⟩
  | .hbm, ⟨58, _⟩ => ⟨S4x10240x1, .i32⟩
  | .hbm, ⟨59, _⟩ => ⟨S4x10240x256, .i32⟩
  | .hbm, ⟨60, _⟩ => ⟨S_, .i32⟩
  | .hbm, ⟨61, _⟩ => ⟨S4x10240x256, .i32⟩
  | .hbm, ⟨62, _⟩ => ⟨S4x10240x256, .i1⟩
  | .hbm, ⟨63, _⟩ => ⟨S_, .i32⟩
  | .hbm, ⟨64, _⟩ => ⟨S4x10240x256, .i32⟩
  | .hbm, ⟨65, _⟩ => ⟨S4x10240x256, .i32⟩
  | .hbm, ⟨66, _⟩ => ⟨S4x10240x256, .i32⟩
  | .hbm, ⟨67, _⟩ => ⟨S4x10240x256x1, .i32⟩
  | .hbm, ⟨68, _⟩ => ⟨S1, .i32⟩
  | .hbm, ⟨69, _⟩ => ⟨S_, .i32⟩
  | .hbm, ⟨70, _⟩ => ⟨S4x10240x256x1, .i32⟩
  | .hbm, ⟨71, _⟩ => ⟨S4x10240x256x1, .i1⟩
  | .hbm, ⟨72, _⟩ => ⟨S1x1x1x1, .i32⟩
  | .hbm, ⟨73, _⟩ => ⟨S4x10240x256x1, .i32⟩
  | .hbm, ⟨74, _⟩ => ⟨S4x10240x256x1, .i1⟩
  | .hbm, ⟨75, _⟩ => ⟨S4x10240x256x1, .i1⟩
  | .hbm, ⟨76, _⟩ => ⟨S_, .i1⟩
  | .hbm, ⟨77, _⟩ => ⟨S4x10240x256, .i1⟩
  | .hbm, ⟨78, _⟩ => ⟨S4x10240x256, .f32⟩
  | .hbm, ⟨79, _⟩ => ⟨S_, .f32⟩
  | .hbm, ⟨80, _⟩ => ⟨S4x10240x256, .f32⟩
  | .hbm, ⟨81, _⟩ => ⟨S4x10240x256, .f32⟩
  | .hbm, ⟨82, _⟩ => ⟨S4x2048x1x256, .f32⟩
  | .hbm, ⟨83, _⟩ => ⟨S4x2048x1x5x256, .f32⟩
  | .hbm, ⟨84, _⟩ => ⟨S4x2048x5x256, .f32⟩
  | .hbm, ⟨85, _⟩ => ⟨S4x10240x256, .f32⟩
  | .hbm, ⟨86, _⟩ => ⟨S4x10240x256, .f32⟩
  | .hbm, ⟨87, _⟩ => ⟨S4x10240x256, .f32⟩
  | .hbm, ⟨88, _⟩ => ⟨S_, .f32⟩
  | .hbm, ⟨89, _⟩ => ⟨S4x10240, .f32⟩
  | .hbm, ⟨90, _⟩ => ⟨S4x10240, .f32⟩
  | .hbm, ⟨91, _⟩ => ⟨S4x10240, .f32⟩
  | .hbm, ⟨92, _⟩ => ⟨S4x10240, .f32⟩
  | .hbm, ⟨93, _⟩ => ⟨S4x2048x5, .f32⟩
  | .hbm, ⟨94, _⟩ => ⟨S2048, .i32⟩
  | .hbm, ⟨95, _⟩ => ⟨S1x2048x1, .i32⟩
  | .hbm, ⟨96, _⟩ => ⟨S4x2048x5, .i32⟩
  | .hbm, ⟨97, _⟩ => ⟨S4x10240, .i32⟩
  | .hbm, ⟨98, _⟩ => ⟨S4x10240x1, .i32⟩
  | .hbm, ⟨99, _⟩ => ⟨S4x10240x1, .i32⟩
  | .hbm, ⟨100, _⟩ => ⟨S4x10240x2, .i32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_cst_0 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_values : Ref sig .tc := ⟨.hbm, 55, rfl⟩
abbrev main_indices : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_cst : Ref sig .tc := ⟨.hbm, 79, rfl⟩
abbrev main_call3_v14 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_4 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩

abbrev nD : Nat := 1
abbrev τ : Topo := Topo.v7x

variable {F : FTy → Type} [FloatOps F]
-- ==== Proof.KernelRun.lean ====
/- The run of the program over the extended reals: every fair execution ends, nothing faulting, with the two results at
   the contents the fold over the program's segments leaves in them and every argument as launched. -/
module

public import proofs.«01_k».proof.Proof.Gen.KernelIdeal.Frame

@[expose] public section

set_option maxRecDepth 16384

noncomputable section

namespace Cert.KernelIdeal.Knn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The launch over the seven segments, read at the results and the arguments. -/
theorem run : θ_run defs (onTc (τ := τ) (main (F := F))) ⟨m, fun _ => 0, ρ⟩ (fun r => ∀ c : Dev nD,
      r.2.mem ((c.tc : Thread nD τ).loc main_v26) = W7 m ρ c (Proc.devRef .tc main_v26)
      ∧ r.2.mem ((c.tc : Thread nD τ).loc main_v18) = W7 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v26 (by decide)), h c _ (mem_uc main_v18 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Knn

end
-- ==== Proof.Spec.lean ====
/- The problem's mathematics on single points, over the extended reals: the embedding of a point by the three layers, its
   square norm, and the squared distance of two embedded points as both programs compute it. -/
module

public import Idealize.ShloMosaic.PureOps.Ideal

@[expose] public section

noncomputable section

namespace Cert.Knn

/-- A layer: coordinate `o` of `h · wᵀ + b`, the weight `w` indexed (out, in). -/
def lin (w : Fin 256 → Fin 256 → EReal) (b h : Fin 256 → EReal) (o : Fin 256) : EReal := (∑ k, h k * w o k) + b o

/-- The rectifier, coordinate by coordinate. -/
def relu (h : Fin 256 → EReal) (k : Fin 256) : EReal := max (h k) 0

/-- A point's embedding: two rectified layers and a plain one. -/
def embed (w1 : Fin 256 → Fin 256 → EReal) (b1 : Fin 256 → EReal) (w2 : Fin 256 → Fin 256 → EReal) (b2 : Fin 256 → EReal)
    (w3 : Fin 256 → Fin 256 → EReal) (b3 x : Fin 256 → EReal) : Fin 256 → EReal :=
  lin w3 b3 (relu (lin w2 b2 (relu (lin w1 b1 x))))

/-- The square norm of a point. -/
def sqn (z : Fin 256 → EReal) : EReal := ∑ k, z k * z k

/-- The squared distance of two points from their square norms and their product, cut off at zero. -/
def dist (u v : Fin 256 → EReal) : EReal := max (sqn u + sqn v - ((2 : ℝ) : EReal) * ∑ k, u k * v k) 0

/-- The embedded points of all batches. -/
def points (x : Fin 4 → Fin 2048 → Fin 256 → EReal) (w1 : Fin 256 → Fin 256 → EReal) (b1 : Fin 256 → EReal)
    (w2 : Fin 256 → Fin 256 → EReal) (b2 : Fin 256 → EReal) (w3 : Fin 256 → Fin 256 → EReal) (b3 : Fin 256 → EReal) :
    Fin 4 → Fin 2048 → Fin 256 → EReal := fun b i => embed w1 b1 w2 b2 w3 b3 (x b i)

end Cert.Knn

end
-- ==== Proof.Constants.lean ====
/- The real numbers of the float constants the two programs write. -/
module

public import Idealize.ShloMosaic.PureOps.Ideal

@[expose] public section

namespace Cert.Knn

open Idealize.ShloMosaic

theorem word_top : Ideal.ofBits .f32 0x7F800000#32 = ⊤ := by simp [Ideal.ofBits, Ideal.ieee]
theorem word_two : Ideal.ofBits .f32 0x40000000#32 = ((2 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_five : Ideal.ofBits .f32 0x40A00000#32 = ((5 : ℝ) : EReal) := by
  simp [Ideal.ofBits, Ideal.ieee, -EReal.coe_mul]; norm_num
theorem word_neg_five : Ideal.ofBits .f32 0xC0A00000#32 = ((-5 : ℝ) : EReal) := by
  simp [Ideal.ofBits, Ideal.ieee, -EReal.coe_mul, -EReal.coe_neg]; norm_num

end Cert.Knn
-- ==== Proof.RefPoints.lean ====
/- The reference's embedded points, square norms, scaled distances and scale, read at an index. -/
module

public import proofs.«01_k».proof.Proof.Gen.ReferenceIdeal.Run
public import Idealize.ShloMosaic.Lib.Pointwise
public import proofs.«01_k».proof.Proof.Spec
public import proofs.«01_k».proof.Proof.Constants

@[expose] public section

set_option maxRecDepth 16384

noncomputable section

namespace Cert.ReferenceIdeal.Knn

open Cert.ReferenceIdeal.Gen Cert.ReferenceIdeal.Value
open Idealize.ShloMosaic Idealize.ShloMosaic.TcCoe Idealize.SL.Sem Cert.Knn

/-- A layer of the reference on the array `h`. -/
def layer (h : FVec Ideal S4x2048x256 .f32) (w : FVec Ideal S256x256 .f32) (b : FVec Ideal S256 .f32) :
    FVec Ideal S4x2048x256 .f32 :=
  addf (Host.dotGeneral dot_S4x2048x256_S256x256_S4x2048x256_2_0_01_1_n_n none h
      (transpose S256x256 [1, 0] w transposes_S256x256_S256x256_1_0))
    (broadcastInDim S4x2048x256 ![0, 1, 2] bcast_S1x1x256_S4x2048x256_0_1_2
      (broadcastInDim S1x1x256 ![2] bcast_S256_S1x1x256_2 b))

theorem layer_apply (h : FVec Ideal S4x2048x256 .f32) (w : FVec Ideal S256x256 .f32) (b : FVec Ideal S256 .f32)
    (n : Fin 4) (i : Fin 2048) (o : Fin 256) :
    layer h w b (ix3 n i o) = lin (fun o k => w (ix2 o k)) (fun o => b (ix1 o)) (fun k => h (ix3 n i k)) o := by
  pointwise [layer, lin]

/-- The reference's rectifier. -/
def rectified (h : FVec Ideal S4x2048x256 .f32) : FVec Ideal S4x2048x256 .f32 :=
  maximumf h (broadcastInDim S4x2048x256 ![] bcast_S_S4x2048x256 (constant S_ .f32 0x00000000#32))

theorem rectified_apply (h : FVec Ideal S4x2048x256 .f32) (n : Fin 4) (i : Fin 2048) (o : Fin 256) :
    rectified h (ix3 n i o) = relu (fun k => h (ix3 n i k)) o := by
  pointwise [rectified, relu]

/-- The three layers. -/
theorem layers_apply (x : FVec Ideal S4x2048x256 .f32) (w1 : FVec Ideal S256x256 .f32) (b1 : FVec Ideal S256 .f32)
    (w2 : FVec Ideal S256x256 .f32) (b2 : FVec Ideal S256 .f32) (w3 : FVec Ideal S256x256 .f32) (b3 : FVec Ideal S256 .f32)
    (n : Fin 4) (i : Fin 2048) (k : Fin 256) :
    layer (rectified (layer (rectified (layer x w1 b1)) w2 b2)) w3 b3 (ix3 n i k)
      = points (fun b i k => x (ix3 b i k)) (fun o k => w1 (ix2 o k)) (fun o => b1 (ix1 o)) (fun o k => w2 (ix2 o k))
          (fun o => b2 (ix1 o)) (fun o k => w3 (ix2 o k)) (fun o => b3 (ix1 o)) n i k := by
  simp only [layer_apply, rectified_apply]
  rfl

section Distances

variable (z : FVec Ideal S4x2048x256 .f32)

/-- The square norms. -/
def sums : FVec Ideal S4x2048 .f32 :=
  Host.reduceAdd (mulf z z) (constant S_ .f32 0x00000000#32) reducesTo_S4x2048x256_S4x2048_d2 h_S_

theorem sums_apply (n : Fin 4) (i : Fin 2048) : sums z (ix2 n i) = sqn (fun k => z (ix3 n i k)) := by
  pointwise [sums, sqn]

/-- The distances. -/
def distArr (s : FVec Ideal S4x2048 .f32) : FVec Ideal S4x2048x2048 .f32 :=
  maximumf (subf (addf
      (broadcastInDim S4x2048x2048 ![0, 1, 2] bcast_S4x2048x1_S4x2048x2048_0_1_2
        (broadcastInDim S4x2048x1 ![0, 1] bcast_S4x2048_S4x2048x1_0_1 s))
      (broadcastInDim S4x2048x2048 ![0, 1, 2] bcast_S4x1x2048_S4x2048x2048_0_1_2
        (broadcastInDim S4x1x2048 ![0, 2] bcast_S4x2048_S4x1x2048_0_2 s)))
      (mulf (broadcastInDim S4x2048x2048 ![] bcast_S_S4x2048x2048 (constant S_ .f32 0x40000000#32))
        (Host.dotGeneral dot_S4x2048x256_S4x2048x256_S4x2048x2048_2_2_1_1_0_0 none z z)))
    (broadcastInDim S4x2048x2048 ![] bcast_S_S4x2048x2048 (constant S_ .f32 0x00000000#32))

theorem distArr_apply (s : FVec Ideal S4x2048 .f32) (n : Fin 4) (i j : Fin 2048) :
    distArr z s (ix3 n i j)
      = max (s (ix2 n i) + s (ix2 n j) - ((2 : ℝ) : EReal) * ∑ k, z (ix3 n i k) * z (ix3 n j k)) 0 := by
  pointwise [distArr]
  rw [word_two]

/-- The scaled negated distances: the keys. -/
def keys (s : FVec Ideal S4x2048 .f32) (t : FVec Ideal S_ .f32) : FVec Ideal S4x2048x2048 .f32 :=
  Host.negf (mulf (distArr z s) (broadcastInDim S4x2048x2048 ![] bcast_S_S4x2048x2048 t))

theorem keys_apply (p : Fin 4 → Fin 2048 → Fin 256 → EReal) (hz : ∀ n i k, z (ix3 n i k) = p n i k)
    (t : FVec Ideal S_ .f32) (n : Fin 4) (i j : Fin 2048) :
    keys z (sums z) t (ix3 n i j) = -(dist (p n i) (p n j) * t ix0) := by
  have h : keys z (sums z) t (ix3 n i j) = -(distArr z (sums z) (ix3 n i j) * t ix0) := by
    pointwise [keys]
  rw [h, distArr_apply, sums_apply, sums_apply]
  simp only [hz]
  rfl

end Distances

/-- The scale. -/
def scale (a : FVec Ideal S_ .f32) : FVec Ideal S_ .f32 :=
  Host.exp (minimumf (constant S_ .f32 0x40A00000#32) (maximumf (constant S_ .f32 0xC0A00000#32) a))

theorem scale_apply (a : FVec Ideal S_ .f32) (j : S_.Idx) :
    scale a j = Ideal.exp (min ((5 : ℝ) : EReal) (max ((-5 : ℝ) : EReal) (a j))) := by
  rw [← word_five, ← word_neg_five]
  rfl

end Cert.ReferenceIdeal.Knn

end
-- ==== Proof.RefGather.lean ====
/- The reference's gather of the points at listed positions: the wrap of negative positions and the test of the range
   change nothing for positions below 2048, so what is gathered is the point at the position. -/
module

public import proofs.«01_k».proof.Proof.RefPoints
public import Idealize.ShloMosaic.Lib.ReduceAll
public import Idealize.ShloMosaic.Lib.Affine

@[expose] public section

set_option maxRecDepth 16384

noncomputable section

namespace Cert.ReferenceIdeal.Knn

open Cert.ReferenceIdeal.Gen
open Idealize.ShloMosaic Idealize.ShloMosaic.TcCoe Idealize.SL.Sem Cert.Knn

/-! ## Words of positions -/

theorem position_toInt (a : Fin 2048) : (BitVec.ofNat 32 a.val).toInt = (a.val : ℤ) := by
  have := a.isLt
  rw [BitVec.toInt_ofNat']
  exact Int.bmod_eq_of_le (by omega) (by omega)

theorem not_negative (a : Fin 2048) : IntOp.cmpi .slt (BitVec.ofNat 32 a.val) 0#32 = 0#1 := by
  have h : ¬ (BitVec.ofNat 32 a.val).toInt < (0#32).toInt := by rw [position_toInt]; simp
  show BitVec.ofBool (decide _) = _
  rw [decide_eq_false h]; rfl

theorem at_least_zero (a : Fin 2048) : IntOp.cmpi .sge (BitVec.ofNat 32 a.val) 0#32 = 1#1 := by
  rw [IntOp.cmpi_sge, position_toInt]
  exact Int.natCast_nonneg _

theorem at_most_last (a : Fin 2048) : IntOp.cmpi .sle (BitVec.ofNat 32 a.val) 2047#32 = 1#1 := by
  rw [IntOp.cmpi_sle, position_toInt]
  have := a.isLt
  show (a.val : ℤ) ≤ 2047
  omega

/-! ## The gather -/

section Gather

variable (p : IVec S4x10240 32)

/-- The positions repeated over the coordinates. -/
def spread : IVec S4x10240x256 32 :=
  broadcastInDim S4x10240x256 ![0, 1, 2] bcast_S4x10240x1_S4x10240x256_0_1_2
    (broadcastInDim S4x10240x1 ![0, 1] bcast_S4x10240_S4x10240x1_0_1 p)

theorem spread_apply (n : Fin 4) (r : Fin 10240) (k : Fin 256) : spread p (ix3 n r k) = p (ix2 n r) := by
  pointwise [spread]

/-- The positions with negative ones counted from the end. -/
def wrapped : IVec S4x10240x256x1 32 :=
  shapeCast _ (select (cmpi .slt (spread p) (broadcastInDim S4x10240x256 ![] bcast_S_S4x10240x256 (constantI S_ 32 0#32)))
    (addi (spread p) (broadcastInDim S4x10240x256 ![] bcast_S_S4x10240x256 (constantI S_ 32 2048#32))) (spread p))
    shapeCasts_S4x10240x256_S4x10240x256x1

/-- Adding a last axis of size one. -/
theorem with_last_axis {α : Type} (v : S4x10240x256.Idx → α) (n : Fin 4) (r : Fin 10240) (k : Fin 256) :
    shapeCast S4x10240x256x1 v shapeCasts_S4x10240x256_S4x10240x256x1 (ix4 n r k 0) = v (ix3 n r k) := by
  pointwise

variable (a : Fin 4 → Fin 10240 → Fin 2048) (hp : ∀ n r, p (ix2 n r) = BitVec.ofNat 32 (a n r).val)
include hp

theorem wrapped_apply (n : Fin 4) (r : Fin 10240) (k : Fin 256) :
    wrapped p (ix4 n r k 0) = BitVec.ofNat 32 (a n r).val := by
  have h : wrapped p (ix4 n r k 0) = Scalar.select (IntOp.cmpi .slt (spread p (ix3 n r k)) 0#32)
      (spread p (ix3 n r k) + 2048#32) (spread p (ix3 n r k)) := (with_last_axis _ n r k).trans rfl
  rw [h, spread_apply, hp, not_negative]
  rfl

/-- The test that every position is in range. -/
def inRange (u : IVec S4x10240x256x1 32) : IVec S4x10240x256 1 :=
  Host.reduce IntOp.andi (andi
      (cmpi .sge u (broadcastInDim S4x10240x256x1 ![] bcast_S_S4x10240x256x1 (constantI S_ 32 0#32)))
      (cmpi .sle u (broadcastInDim S4x10240x256x1 ![0, 1, 2, 3] bcast_S1x1x1x1_S4x10240x256x1_0_1_2_3
        (broadcastInDim S1x1x1x1 ![3] bcast_S1_S1x1x1x1_3 (constantI S1 32 2047#32)))))
    (constantI S_ 1 1#1) reducesTo_S4x10240x256x1_S4x10240x256_d3 h_S_

theorem inRange_apply (j : S4x10240x256.Idx) : inRange (wrapped p) j = 1#1 := by
  refine Host.reduce_andi_one _ _ _ _ j rfl fun i => ?_
  have hi : i = ix4 (i 0) (i 1) (i 2) 0 := by
    have h3 : @Eq (Fin 1) (i 3) 0 := Subsingleton.elim (α := Fin 1) (i 3) 0
    exact (eq_ix4 i).trans (congrArg (fun e : Fin 1 => ix4 (i 0) (i 1) (i 2) e) h3)
  have hw : wrapped p i = BitVec.ofNat 32 (a (i 0) (i 1)).val := by
    rw [hi]
    exact wrapped_apply p a hp (i 0) (i 1) (i 2)
  show IntOp.andi (IntOp.cmpi .sge (wrapped p i) 0#32) (IntOp.cmpi .sle (wrapped p i) 2047#32) = 1#1
  rw [hw, at_least_zero, at_most_last]
  rfl

omit hp in
/-- The index of the points' array that the gather reads. -/
theorem gather_index (u : IVec S4x10240x256x1 32) (n : Fin 4) (r : Fin 10240) (k : Fin 256) (t : Fin 2048)
    (hu : u (ix4 n r k 0) = BitVec.ofNat 32 t.val) :
    gather_S4x2048x256_S4x10240x256x1_S4x10240x256_n_1_02_02_1_3_111.operandIdx (ix3 n r k) u = ix3 n t k := by
  have hs : gather_S4x2048x256_S4x10240x256x1_S4x10240x256_n_1_02_02_1_3_111.siIdx (ix3 n r k) ⟨0, by decide⟩
      = ix4 n r k 0 := by
    funext c
    match c with
    | ⟨0, _⟩ => rfl
    | ⟨1, _⟩ => rfl
    | ⟨2, _⟩ => rfl
    | ⟨3, _⟩ => rfl
  have ht := t.isLt
  funext c
  apply Fin.ext
  match c with
  | ⟨0, _⟩ => exact Nat.zero_add _
  | ⟨1, _⟩ =>
    show min (u (gather_S4x2048x256_S4x10240x256x1_S4x10240x256_n_1_02_02_1_3_111.siIdx (ix3 n r k) ⟨0, _⟩)).toInt.toNat 2047
      + 0 + 0 = t.val
    rw [hs, hu, position_toInt]
    omega
  | ⟨2, _⟩ => exact Nat.zero_add _

/-- The gathered points. -/
def gathered (z : FVec Ideal S4x2048x256 .f32) (u : IVec S4x10240x256x1 32) : FVec Ideal S4x10240x256 .f32 :=
  select (inRange u) (Host.gather gather_S4x2048x256_S4x10240x256x1_S4x10240x256_n_1_02_02_1_3_111 z u)
    (broadcastInDim S4x10240x256 ![] bcast_S_S4x10240x256 (constant S_ .f32 0x7FC00000#32))

omit hp in
/-- A selection on a condition that holds. -/
theorem select_one {s : Shape} {α : Type} (c : IVec s 1) (x y : s.Idx → α) (j : s.Idx) (h : c j = 1#1) :
    select c x y j = x j := by
  show Scalar.select (c j) (x j) (y j) = x j
  rw [h]
  exact if_pos rfl

theorem gathered_apply (z : FVec Ideal S4x2048x256 .f32) (n : Fin 4) (r : Fin 10240) (k : Fin 256) :
    gathered z (wrapped p) (ix3 n r k) = z (ix3 n (a n r) k) := by
  rw [gathered, select_one _ _ _ _ (inRange_apply p a hp _)]
  exact congrArg z (gather_index _ n r k (a n r) (wrapped_apply p a hp n r k))

end Gather

/-- Every point repeated five times. -/
def repeated (z : FVec Ideal S4x2048x256 .f32) : FVec Ideal S4x10240x256 .f32 :=
  shapeCast S4x10240x256 (shapeCast S4x2048x5x256
    (broadcastInDim S4x2048x1x5x256 ![0, 1, 2, 4] bcast_S4x2048x1x256_S4x2048x1x5x256_0_1_2_4
      (broadcastInDim S4x2048x1x256 ![0, 1, 3] bcast_S4x2048x256_S4x2048x1x256_0_1_3 z))
    shapeCasts_S4x2048x1x5x256_S4x2048x5x256) shapeCasts_S4x2048x5x256_S4x10240x256

/-- Blocks of five rows laid end to end. -/
theorem blocks_end_to_end {α : Type} (v : S4x2048x5x256.Idx → α) (n : Fin 4) (i : Fin 2048) (q : Fin 5) (k : Fin 256) :
    shapeCast S4x10240x256 v shapeCasts_S4x2048x5x256_S4x10240x256 (ix3 n ⟨i.val * 5 + q.val, by omega⟩ k)
      = v (ix4 n i q k) := by
  refine shapeCast_apply v _ _ _ ?_
  rw [Shape.rowMajor_val_four, Shape.rowMajor_val_three]
  show ((n.val * 2048 + i.val) * 5 + q.val) * 256 + k.val = (n.val * 10240 + (i.val * 5 + q.val)) * 256 + k.val
  omega

/-- Repeating every point along a new axis of five. -/
theorem repeated_axis {α : Type} (z : S4x2048x256.Idx → α) (n : Fin 4) (i : Fin 2048) (q : Fin 5) (k : Fin 256) :
    shapeCast S4x2048x5x256
      (broadcastInDim S4x2048x1x5x256 ![0, 1, 2, 4] bcast_S4x2048x1x256_S4x2048x1x5x256_0_1_2_4
        (broadcastInDim S4x2048x1x256 ![0, 1, 3] bcast_S4x2048x256_S4x2048x1x256_0_1_3 z))
      shapeCasts_S4x2048x1x5x256_S4x2048x5x256 (ix4 n i q k) = z (ix3 n i k) := by
  pointwise

theorem repeated_apply (z : FVec Ideal S4x2048x256 .f32) (n : Fin 4) (i : Fin 2048) (q : Fin 5) (k : Fin 256) :
    repeated z (ix3 n ⟨i.val * 5 + q.val, by omega⟩ k) = z (ix3 n i k) := by
  exact (blocks_end_to_end _ n i q k).trans (repeated_axis z n i q k)

/-- Rows of five laid end to end. -/
theorem end_to_end {α : Type} (v : S4x2048x5.Idx → α) (n : Fin 4) (i : Fin 2048) (q : Fin 5) :
    shapeCast S4x10240 v shapeCasts_S4x2048x5_S4x10240 (ix2 n ⟨i.val * 5 + q.val, by omega⟩) = v (ix3 n i q) := by
  pointwise

/-- The array cut into rows of five. -/
theorem in_fives {α : Type} (v : S4x10240.Idx → α) (n : Fin 4) (i : Fin 2048) (q : Fin 5) :
    shapeCast S4x2048x5 v shapeCasts_S4x10240_S4x2048x5 (ix3 n i q) = v (ix2 n ⟨i.val * 5 + q.val, by omega⟩) := by
  pointwise

/-- The second result from the differences and the scale. -/
def logprobs (v : FVec Ideal S4x10240x256 .f32) (t : FVec Ideal S_ .f32) : FVec Ideal S4x2048x5 .f32 :=
  shapeCast S4x2048x5 (mulf (Host.negf (Host.reduceAdd (mulf v v) (constant S_ .f32 0x00000000#32)
      reducesTo_S4x10240x256_S4x10240_d2 h_S_)) (broadcastInDim S4x10240 ![] bcast_S_S4x10240 t))
    shapeCasts_S4x10240_S4x2048x5

theorem logprobs_apply (v : FVec Ideal S4x10240x256 .f32) (t : FVec Ideal S_ .f32) (n : Fin 4) (i : Fin 2048) (q : Fin 5) :
    logprobs v t (ix3 n i q)
      = -(∑ k, v (ix3 n ⟨i.val * 5 + q.val, by omega⟩ k) * v (ix3 n ⟨i.val * 5 + q.val, by omega⟩ k)) * t ix0 := by
  pointwise [logprobs]

end Cert.ReferenceIdeal.Knn

end
-- ==== Proof.RowPick.lean ====
/- The row mathematics, away from any program. A row of 2048 squared distances is searched in rounds: each round takes
   the least entry, at its first position when several are equal, and overwrites that position with `+∞`. For a row of
   entries below `+∞` the positions the first five rounds take are the first five positions of the stable sort of the
   row, and the values they take are the row's values there. -/
module

public import Idealize.ShloMosaic.Lib.SortPrefix
public import Idealize.ShloMosaic.PureOps.Ideal

@[expose] public section

set_option maxRecDepth 16384

noncomputable section

namespace Cert.Knn

open Idealize.ShloMosaic

/-- The least entry of a row. -/
def rowMin (cur : Fin 2048 → EReal) : EReal := Finset.univ.fold min ⊤ cur

/-- The first position of the least entry, as the kernel computes it: the least of the positions (as numbers) at which
    the row equals its least entry, the other positions counted as 2048. -/
def rowArg (cur : Fin 2048 → EReal) : EReal :=
  Finset.univ.fold min ⊤ fun j => if cur j = rowMin cur then ((j.val : ℝ) : EReal) else ((2048 : ℝ) : EReal)

/-- The row after a round: `+∞` at the position taken. -/
def knock (cur : Fin 2048 → EReal) : Fin 2048 → EReal :=
  fun j => if ((j.val : ℝ) : EReal) = rowArg cur then ⊤ else cur j

/-- The row when round `r` begins. -/
def rowAt (d : Fin 2048 → EReal) : ℕ → Fin 2048 → EReal
  | 0 => d
  | r + 1 => knock (rowAt d r)

theorem fold_min_eq_inf (f : Fin 2048 → EReal) : Finset.univ.fold min ⊤ f = Finset.univ.inf f := rfl

theorem coe_pos_eq (j p : Fin 2048) : ((j.val : ℝ) : EReal) = ((p.val : ℝ) : EReal) ↔ j = p := by
  rw [EReal.coe_eq_coe_iff, Nat.cast_inj, Fin.ext_iff]

/-- A row has a first position of its least entry, and `rowMin` and `rowArg` are the entry there and that position. -/
theorem exists_pick (cur : Fin 2048 → EReal) :
    ∃ p : Fin 2048, rowMin cur = cur p ∧ rowArg cur = ((p.val : ℝ) : EReal) ∧ (∀ j, cur p ≤ cur j)
      ∧ ∀ j, cur j = cur p → p ≤ j := by
  classical
  obtain ⟨q, -, hq⟩ := Finset.exists_min_image (Finset.univ : Finset (Fin 2048)) cur ⟨0, Finset.mem_univ _⟩
  have hne : (Finset.univ.filter fun j => cur j = cur q).Nonempty := ⟨q, by simp⟩
  obtain ⟨p, hp, hmin⟩ := Finset.exists_min_image _ id hne
  have hpq : cur p = cur q := (Finset.mem_filter.mp hp).2
  have hle : ∀ j, cur p ≤ cur j := fun j => hpq ▸ hq j (Finset.mem_univ j)
  have hfirst : ∀ j, cur j = cur p → p ≤ j := fun j hj =>
    hmin j (Finset.mem_filter.mpr ⟨Finset.mem_univ j, hj.trans hpq⟩)
  have hm : rowMin cur = cur p := by
    rw [rowMin, fold_min_eq_inf]
    exact le_antisymm (Finset.inf_le (Finset.mem_univ p)) (Finset.le_inf fun j _ => hle j)
  refine ⟨p, hm, ?_, hle, hfirst⟩
  rw [rowArg, fold_min_eq_inf, hm]
  refine le_antisymm (by simpa using Finset.inf_le (f := fun j => if cur j = cur p then ((j.val : ℝ) : EReal) else ((2048 : ℝ) : EReal)) (Finset.mem_univ p))
    (Finset.le_inf fun j _ => ?_)
  split
  · rename_i h
    exact EReal.coe_le_coe_iff.mpr (by exact_mod_cast hfirst j h)
  · exact EReal.coe_le_coe_iff.mpr (by exact_mod_cast p.isLt.le)

/-- The position a round takes. -/
def pick (cur : Fin 2048 → EReal) : Fin 2048 := (exists_pick cur).choose

theorem rowMin_eq (cur : Fin 2048 → EReal) : rowMin cur = cur (pick cur) := (exists_pick cur).choose_spec.1
theorem rowArg_eq (cur : Fin 2048 → EReal) : rowArg cur = (((pick cur).val : ℝ) : EReal) := (exists_pick cur).choose_spec.2.1
theorem pick_le (cur : Fin 2048 → EReal) (j : Fin 2048) : cur (pick cur) ≤ cur j := (exists_pick cur).choose_spec.2.2.1 j
theorem pick_first (cur : Fin 2048 → EReal) (j : Fin 2048) (h : cur j = cur (pick cur)) : pick cur ≤ j :=
  (exists_pick cur).choose_spec.2.2.2 j h

theorem knock_eq (cur : Fin 2048 → EReal) (j : Fin 2048) : knock cur j = if j = pick cur then ⊤ else cur j := by
  unfold knock
  rw [rowArg_eq]
  simp only [coe_pos_eq]

/-- The position round `r` takes, of the row `d`. -/
def picked (d : Fin 2048 → EReal) (r : ℕ) : Fin 2048 := pick (rowAt d r)

/-- When round `r` begins, exactly the positions taken before it are overwritten. -/
theorem rowAt_eq (d : Fin 2048 → EReal) (r : ℕ) (j : Fin 2048) :
    rowAt d r j = if ∃ s < r, picked d s = j then ⊤ else d j := by
  classical
  induction r with
  | zero => simp [rowAt]
  | succ r ih =>
    rw [rowAt, knock_eq, ih]
    by_cases h : j = pick (rowAt d r)
    · rw [if_pos h, if_pos ⟨r, Nat.lt_succ_self r, h.symm⟩]
    · rw [if_neg h]
      by_cases h' : ∃ s < r, picked d s = j
      · obtain ⟨s, hs, e⟩ := h'
        rw [if_pos ⟨s, hs, e⟩, if_pos ⟨s, Nat.lt_succ_of_lt hs, e⟩]
      · rw [if_neg h', if_neg]
        rintro ⟨s, hs, e⟩
        rcases Nat.lt_succ_iff_lt_or_eq.mp hs with hs | rfl
        · exact h' ⟨s, hs, e⟩
        · exact h e.symm

section Bounded

variable (d : Fin 2048 → EReal) (hd : ∀ j, d j ≠ ⊤)
include hd

/-- While fewer than 2048 positions are taken, a round takes a new one. -/
theorem picked_ne (r : ℕ) (hr : r < 2048) (s : ℕ) (hs : s < r) : picked d s ≠ picked d r := by
  classical
  obtain ⟨j, hj⟩ : ∃ j, ∀ s < r, picked d s ≠ j := by
    by_contra hall
    push Not at hall
    have hsub : (Finset.univ : Finset (Fin 2048)) ⊆ (Finset.range r).image (picked d) := fun j _ => by
      obtain ⟨s, hs, e⟩ := hall j
      exact Finset.mem_image.mpr ⟨s, Finset.mem_range.mpr hs, e⟩
    have := (Finset.card_le_card hsub).trans Finset.card_image_le
    rw [Finset.card_univ, Fintype.card_fin, Finset.card_range] at this
    omega
  intro e
  have h1 : rowAt d r (picked d r) = ⊤ := by rw [rowAt_eq, if_pos ⟨s, hs, e⟩]
  have h2 : rowAt d r j = d j := by
    rw [rowAt_eq, if_neg]
    rintro ⟨s, hs, e⟩
    exact hj s hs e
  have h3 := pick_le (rowAt d r) j
  rw [show pick (rowAt d r) = picked d r from rfl, h1, h2, top_le_iff] at h3
  exact hd j h3

/-- The value a round takes is the row's at the position it takes. -/
theorem rowMin_rowAt (r : ℕ) (hr : r < 2048) : rowMin (rowAt d r) = d (picked d r) := by
  rw [rowMin_eq, show pick (rowAt d r) = picked d r from rfl, rowAt_eq, if_neg]
  rintro ⟨s, hs, e⟩
  exact picked_ne d hd r hr s hs e

/-- A position not yet taken holds more than the one taken, or as much and comes no earlier. -/
theorem picked_before (r : ℕ) (hr : r < 2048) (p : Fin 2048) (hp : ∀ s < r, picked d s ≠ p) :
    d (picked d r) < d p ∨ (d (picked d r) = d p ∧ picked d r ≤ p) := by
  have hv : rowAt d r (picked d r) = d (picked d r) := by
    rw [← rowMin_rowAt d hd r hr, rowMin_eq]; rfl
  have hpv : rowAt d r p = d p := by
    rw [rowAt_eq, if_neg]
    rintro ⟨s, hs, e⟩
    exact hp s hs e
  have hle := pick_le (rowAt d r) p
  rw [show pick (rowAt d r) = picked d r from rfl, hv, hpv] at hle
  rcases lt_or_eq_of_le hle with h | h
  · exact Or.inl h
  · refine Or.inr ⟨h, pick_first (rowAt d r) p ?_⟩
    rw [show pick (rowAt d r) = picked d r from rfl, hv, hpv, h]

end Bounded

/-- Two relations that agree on every pair "later, earlier" of a list sort it alike: the stable sort compares an element
    only with later ones. -/
theorem stableSort_eq_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- So two such relations put the same index at every position of the sort. -/
theorem sortedFrom_eq_of_later {n : ℕ} (R R' : Fin n → Fin n → Bool) (h : ∀ a b, a < b → R b a = R' b a) (k : Fin n) :
    sortedFrom R k = sortedFrom R' k := by
  have hs : sortPositions n R = sortPositions n R' :=
    stableSort_eq_of_later R R' _ ((List.pairwise_lt_finRange n).imp fun {a b} hab => h a b hab)
  unfold sortedFrom
  rw [List.get_of_eq hs]
  rfl

/-- The first five positions of the stable sort of a row, smaller first, are those the five rounds take. -/
theorem sortedFrom_eq_picked (d : Fin 2048 → EReal) (hd : ∀ j, d j ≠ ⊤) (B : Fin 2048 → Fin 2048 → Bool)
    (hB : ∀ j k, B j k = decide (d j < d k)) (r : Fin 2048) (hr : r.val < 5) :
    sortedFrom B r = picked d r.val := by
  let T : Fin 2048 → Fin 2048 → Bool := fun j k => decide (d j < d k) || (decide (d j = d k) && decide (j < k))
  have hT : StrictTotalBefore T :=
    StrictTotalBefore.of_key_then_position (fun a b : EReal => decide (a < b)) d (by simp)
      (fun a b c hab hbc => by simp only [decide_eq_true_eq] at *; exact hab.trans hbc)
      (fun a b => by simpa using lt_trichotomy a b)
  rw [sortedFrom_eq_of_later B T (fun a b hab => by
    simp only [hB, T, not_lt_of_gt hab, decide_false, Bool.and_false, Bool.or_false]) r]
  have hinj : Function.Injective fun i : Fin 5 => picked d i.val := fun i j e => by
    by_contra hne
    rcases lt_or_gt_of_ne hne with h | h
    · exact picked_ne d hd j.val (by omega) i.val h e
    · exact picked_ne d hd i.val (by omega) j.val h e.symm
  have notBefore : ∀ (i : ℕ), i < 5 → ∀ p, (∀ s < i, picked d s ≠ p) → T p (picked d i) = false := fun i hi p hp => by
    rcases picked_before d hd i (by omega) p hp with h | ⟨h, hle⟩
    · simp [T, not_lt_of_gt h, h.ne']
    · simp [T, h, hle]
  have := hT.sortedFrom_eq_of_prefix (k := 5) (by decide) (fun i => picked d i.val) hinj
    (fun i j hij => notBefore i.val i.isLt _ fun s hs => picked_ne d hd j.val (by omega) s (by have : i.val < j.val := hij; omega))
    (fun i p hp => notBefore i.val i.isLt p fun s hs => hp ⟨s, by omega⟩) ⟨r.val, hr⟩
  exact this

end Cert.Knn

end
-- ==== Proof.PreRead.lean ====
/- The precondition read: when the test function's value is all ones, every entry of every argument it tests is a real
   number. -/
module

public import proofs.«01_k».proof.Pre_finite_inputs
public import Idealize.ShloMosaic.Lib.Pointwise
public import Idealize.ShloMosaic.Lib.ReduceAll
public import proofs.«01_k».proof.Proof.Constants

@[expose] public section

set_option maxRecDepth 16384

noncomputable section

namespace Cert.Knn

open Idealize.ShloMosaic

/-- The shape relations the test function states. -/
instance pre_facts : Cert.Pre_finite_inputs.Facts where
  bcast_S_S4x2048x256 := by decide
  reducesTo_S4x2048x256_S_d0_1_2 := by decide
  h_S_ := by decide
  bcast_S_S256x256 := by decide
  reducesTo_S256x256_S_d0_1 := by decide
  bcast_S_S256 := by decide
  reducesTo_S256_S_d0 := by decide

/-- A value that is a real number. -/
def IsReal (x : EReal) : Prop := ∃ r : ℝ, x = (r : EReal)

theorem isReal_of_abs_lt (x : EReal) (h : max x (-x) < ⊤) : IsReal x := by
  induction x with
  | bot => simp at h
  | top => simp at h
  | coe r => exact ⟨r, rfl⟩

/-- A conjunction of one-bit words is one when both are. -/
theorem both_one (a b : BitVec 1) (h : IntOp.andi a b = 1#1) : a = 1#1 ∧ b = 1#1 := by
  revert h; revert a b; decide

/-- One argument's test: where the conjunction over all entries is one, every entry is real. -/
theorem entries_real {s : Shape} (a : FVec Ideal s .f32) (hb : Cert.Pre_finite_inputs.S_.BroadcastsInDim s (![] : Fin 0 → Fin s.rank))
    {axes : List (Fin s.rank)} (h : s.ReducesTo axes Cert.Pre_finite_inputs.S_) (hu : 0 < Cert.Pre_finite_inputs.S_.numel)
    (j : Cert.Pre_finite_inputs.S_.Idx)
    (e : Host.reduce IntOp.andi (cmpf .olt (Host.absf a)
        (broadcastInDim s ![] hb (constant (F := Ideal) Cert.Pre_finite_inputs.S_ .f32 0x7F800000#32)))
        (constantI Cert.Pre_finite_inputs.S_ 1 1#1) h hu j = 1#1) (i : s.Idx) : IsReal (a i) := by
  have h1 := Host.reduce_andi_all _ _ h hu j e i
  have h2 : BitVec.ofBool (decide (max (a i : EReal) (-(a i : EReal)) < Ideal.ofBits .f32 0x7F800000#32)) = 1#1 := h1
  rw [word_top] at h2
  refine isReal_of_abs_lt _ ?_
  by_contra hn
  rw [decide_eq_false hn] at h2
  exact absurd h2 (by decide)

open Cert.Pre_finite_inputs in
/-- The test of all arguments. -/
theorem pre_real (x : FVec Ideal S4x2048x256 .f32) (t : FVec Ideal S_ .f32) (w1 : FVec Ideal S256x256 .f32)
    (b1 : FVec Ideal S256 .f32) (w2 : FVec Ideal S256x256 .f32) (b2 : FVec Ideal S256 .f32)
    (w3 : FVec Ideal S256x256 .f32) (b3 : FVec Ideal S256 .f32)
    (h : Cert.Pre_finite_inputs.fn (F := Ideal) x t w1 b1 w2 b2 w3 b3 = fun _ => 1#1) :
    (∀ i, IsReal (x i)) ∧ (∀ i, IsReal (w1 i)) ∧ (∀ i, IsReal (b1 i)) ∧ (∀ i, IsReal (w2 i)) ∧ (∀ i, IsReal (b2 i))
      ∧ (∀ i, IsReal (w3 i)) ∧ (∀ i, IsReal (b3 i)) := by
  have h0 := congrFun h (fun i => i.elim0)
  dsimp only [Cert.Pre_finite_inputs.fn, Cert.Pre_finite_inputs.fn_part1] at h0
  obtain ⟨h1, e7⟩ := both_one _ _ h0
  obtain ⟨h2, e6⟩ := both_one _ _ h1
  obtain ⟨h3, e5⟩ := both_one _ _ h2
  obtain ⟨h4, e4⟩ := both_one _ _ h3
  obtain ⟨h5, e3⟩ := both_one _ _ h4
  obtain ⟨e1, e2⟩ := both_one _ _ h5
  exact ⟨entries_real _ _ _ _ _ e1, entries_real _ _ _ _ _ e2, entries_real _ _ _ _ _ e3, entries_real _ _ _ _ _ e4,
    entries_real _ _ _ _ _ e5, entries_real _ _ _ _ _ e6, entries_real _ _ _ _ _ e7⟩

end Cert.Knn

end
-- ==== Proof.Reals.lean ====
/- Finite arguments: the embedded points are real; the squared distance from square norms and product is the sum of the
   squared differences; the scale is a positive real. -/
module

public import proofs.«01_k».proof.Proof.Spec
public import proofs.«01_k».proof.Proof.PreRead

@[expose] public section

noncomputable section

namespace Cert.Knn

open Idealize.ShloMosaic

theorem coe_sum' {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A family of reals is the coercion of a real family. -/
theorem family {ι : Type} (f : ι → EReal) (h : ∀ k, IsReal (f k)) : ∃ r : ι → ℝ, f = fun k => (r k : EReal) :=
  ⟨fun k => (h k).choose, funext fun k => (h k).choose_spec⟩

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

section Layers

variable {w1 w2 w3 : Fin 256 → Fin 256 → EReal} {b1 b2 b3 x : Fin 256 → EReal}

theorem lin_real (hw : ∀ o k, IsReal (w1 o k)) (hb : ∀ o, IsReal (b1 o)) (hx : ∀ k, IsReal (x k)) (o : Fin 256) :
    IsReal (lin w1 b1 x o) := by
  obtain ⟨w, hw⟩ := family (w1 o) (hw o)
  obtain ⟨v, hv⟩ := family x hx
  obtain ⟨b, hb⟩ := hb o
  refine ⟨(∑ k, v k * w k) + b, ?_⟩
  rw [lin, hb, hw, hv, EReal.coe_add, coe_sum']
  simp only [EReal.coe_mul]

theorem relu_real (hx : ∀ k, IsReal (x k)) (k : Fin 256) : IsReal (relu x k) := by
  obtain ⟨r, hr⟩ := hx k
  exact ⟨max r 0, by rw [relu, hr, ← coe_max']; rfl⟩

theorem embed_real (h1 : ∀ o k, IsReal (w1 o k)) (g1 : ∀ o, IsReal (b1 o)) (h2 : ∀ o k, IsReal (w2 o k))
    (g2 : ∀ o, IsReal (b2 o)) (h3 : ∀ o k, IsReal (w3 o k)) (g3 : ∀ o, IsReal (b3 o)) (hx : ∀ k, IsReal (x k))
    (o : Fin 256) : IsReal (embed w1 b1 w2 b2 w3 b3 x o) :=
  lin_real h3 g3 (relu_real (lin_real h2 g2 (relu_real (lin_real h1 g1 hx)))) o

end Layers

/-- The sum of the squared differences of two points. -/
def sqdiff (u v : Fin 256 → EReal) : EReal := ∑ k, (v k - u k) * (v k - u k)

/-- Of real points, the squared distance is the sum of the squared differences. -/
theorem dist_eq (u v : Fin 256 → EReal) (hu : ∀ k, IsReal (u k)) (hv : ∀ k, IsReal (v k)) :
    dist u v = sqdiff u v ∧ IsReal (dist u v) := by
  obtain ⟨a, rfl⟩ := family u hu
  obtain ⟨b, rfl⟩ := family v hv
  have h : sqdiff (fun k => (a k : EReal)) (fun k => (b k : EReal)) = ((∑ k, (b k - a k) * (b k - a k) : ℝ) : EReal) := by
    rw [sqdiff, coe_sum']
    simp only [EReal.coe_mul, EReal.coe_sub]
  have h0 : (0 : ℝ) ≤ ∑ k, (b k - a k) * (b k - a k) := Finset.sum_nonneg fun k _ => mul_self_nonneg _
  have e : dist (fun k => (a k : EReal)) (fun k => (b k : EReal)) = ((∑ k, (b k - a k) * (b k - a k) : ℝ) : EReal) := by
    unfold dist sqn
    simp only [← EReal.coe_mul, ← coe_sum', ← EReal.coe_add, ← EReal.coe_sub]
    rw [show (0 : EReal) = ((0 : ℝ) : EReal) from rfl, coe_max']
    congr 1
    rw [← max_eq_left h0]
    congr 1
    rw [Finset.mul_sum, ← Finset.sum_add_distrib, ← Finset.sum_sub_distrib]
    exact Finset.sum_congr rfl fun k _ => by ring
  exact ⟨e.trans h.symm, _, e⟩

/-- The exponential of a temperature cut off at −5 and 5 is a positive real. -/
theorem scale_pos (a : EReal) : ∃ t : ℝ, 0 < t ∧ Ideal.exp (min ((5 : ℝ) : EReal) (max ((-5 : ℝ) : EReal) a)) = (t : EReal) := by
  have h : IsReal (min ((5 : ℝ) : EReal) (max ((-5 : ℝ) : EReal) a)) := by
    induction a with
    | bot => exact ⟨min 5 (-5), by rw [max_eq_left bot_le, coe_min']⟩
    | top => exact ⟨5, by rw [max_eq_right le_top, min_eq_left le_top]⟩
    | coe r => exact ⟨min 5 (max (-5) r), by rw [coe_max', coe_min']⟩
  obtain ⟨r, hr⟩ := h
  exact ⟨Real.exp r, Real.exp_pos r, by rw [hr]; rfl⟩

/-- Scaling by a positive real and negating reverses the order of real distances. -/
theorem key_order (a b : EReal) (ha : IsReal a) (hb : IsReal b) (t : ℝ) (ht : 0 < t) :
    -(b * (t : EReal)) < -(a * (t : EReal)) ↔ a < b := by
  obtain ⟨a, rfl⟩ := ha
  obtain ⟨b, rfl⟩ := hb
  rw [← EReal.coe_mul, ← EReal.coe_mul, ← EReal.coe_neg, ← EReal.coe_neg, EReal.coe_lt_coe_iff, EReal.coe_lt_coe_iff,
    neg_lt_neg_iff, mul_lt_mul_iff_left₀ ht]

/-- A position below 2048 as a word. -/
theorem word_of_position (n : ℕ) (hn : n < 2048) : Ideal.fptosi 32 (((n : ℝ)) : EReal) = BitVec.ofNat 32 n := by
  have h0 : (0 : ℝ) ≤ n := Nat.cast_nonneg n
  rw [Ideal.fptosi, Ideal.toIntClamped_coe, if_pos h0, Int.floor_natCast]
  rw [min_eq_right (by norm_num; omega), max_eq_right (by norm_num), BitVec.ofInt_natCast]

end Cert.Knn

end
-- ==== Proof.RefTopK.lean ====
/- The reference's top-5: the positions it lists are those the kernel's rounds take. The keys are the distances times a
   positive scale, negated, so the greatest keys are at the least distances, in the same order and with ties kept in the
   order of the positions. -/
module

public import proofs.«01_k».proof.Proof.RefPoints
public import proofs.«01_k».proof.Proof.RowPick
public import proofs.«01_k».proof.Proof.Reals

@[expose] public section

set_option maxRecDepth 16384

noncomputable section

namespace Cert.ReferenceIdeal.Knn

open Cert.ReferenceIdeal.Gen
open Idealize.ShloMosaic Idealize.ShloMosaic.TcCoe Idealize.SL.Sem Cert.Knn

theorem two_lt_rank : 2 < S4x2048x2048.rank := by decide

/-- The index with the last coordinate replaced. -/
def place (n : Fin 4) (i q k : Fin 2048) : S4x2048x2048.Idx :=
  Shape.Idx.along (s := S4x2048x2048) (ix3 n i q) ⟨2, two_lt_rank⟩ k

theorem place_eq (n : Fin 4) (i q k : Fin 2048) : place n i q k = ix3 n i k := by
  funext a
  match a with
  | ⟨0, _⟩ => rfl
  | ⟨1, _⟩ => rfl
  | ⟨2, _⟩ => rfl

/-- A sort along the last axis that carries a second array, at an index. -/
theorem sorted_row {α β : Type} (cmp : α × β → α × β → BitVec 1) (x : S4x2048x2048.Idx → α) (y : S4x2048x2048.Idx → β)
    (n : Fin 4) (i q : Fin 2048) :
    (Host.sort2 S4x2048x2048 2 cmp x y).2 (ix3 n i q)
      = y (ix3 n i (sortedFrom (fun k k' : Fin 2048 =>
          cmp (x (ix3 n i k), y (ix3 n i k)) (x (ix3 n i k'), y (ix3 n i k')) == 1#1) q)) := by
  have h : (Host.sort2 S4x2048x2048 2 cmp x y).2 (ix3 n i q)
      = y (place n i q (sortedFrom (fun k k' : Fin 2048 =>
          cmp (x (place n i q k), y (place n i q k)) (x (place n i q k'), y (place n i q k')) == 1#1) q)) := rfl
  rw [h]
  simp only [place_eq]

/-- The first five places along the last axis. -/
theorem first_five {β : Type} (y : S4x2048x2048.Idx → β) (n : Fin 4) (i : Fin 2048) (q : Fin 5) (q' : Fin 2048)
    (hq : q'.val = q.val) :
    extractStridedSlice S4x2048x5 (fun _ => 0) y sliceFits_S4x2048x2048_S4x2048x5 (ix3 n i q) = y (ix3 n i q') := by
  refine congrArg y (funext fun a => Fin.ext ?_)
  match a with
  | ⟨0, _⟩ => exact Nat.zero_add _
  | ⟨1, _⟩ => exact Nat.zero_add _
  | ⟨2, _⟩ => exact (Nat.zero_add _).trans hq.symm

/-- The five greatest entries' positions in each row, as words. -/
def topAt (x : FVec Ideal S4x2048x2048 .f32) : IVec S4x2048x5 32 :=
  (Host.topK S4x2048x5 2 (FloatOps.cmpfTotal .gt) x sliceFits_S4x2048x2048_S4x2048x5).2

/-- They are the first positions of the row's stable sort, greater entries first. -/
theorem topAt_sorted (x : FVec Ideal S4x2048x2048 .f32) (n : Fin 4) (i : Fin 2048) (q : Fin 5) (q' : Fin 2048)
    (hq : q'.val = q.val) :
    topAt x (ix3 n i q)
      = BitVec.ofNat 32 (sortedFrom (fun k k' : Fin 2048 =>
          BitVec.ofBool (decide (x (ix3 n i k') < x (ix3 n i k))) == 1#1) q').val :=
  (first_five _ n i q q' hq).trans (sorted_row
    (fun l r => FloatOps.cmpfTotal (F := Ideal) (φ := .f32) .gt l.1 r.1) x
    (fun i => if hd : 2 < S4x2048x2048.rank then iotaInDim S4x2048x2048 32 ⟨2, hd⟩ i else 0#32) n i q')

/-- The positions the reference lists. -/
theorem topAt_picked (d : Fin 2048 → EReal) (hd : ∀ j, IsReal (d j)) (t : ℝ) (ht : 0 < t) (x : FVec Ideal S4x2048x2048 .f32)
    (n : Fin 4) (i : Fin 2048) (hx : ∀ j, x (ix3 n i j) = -(d j * (t : EReal))) (q : Fin 5) :
    topAt x (ix3 n i q) = BitVec.ofNat 32 (picked d q.val).val := by
  have hq : q.val < 2048 := by omega
  rw [topAt_sorted x n i q ⟨q.val, hq⟩ rfl, sortedFrom_eq_picked d _ _ _ _ q.isLt]
  · intro j
    obtain ⟨r, hr⟩ := hd j
    rw [hr]
    exact EReal.coe_ne_top r
  · intro j k
    rw [hx, hx]
    by_cases h : d j < d k
    · rw [decide_eq_true ((key_order _ _ (hd j) (hd k) t ht).2 h), decide_eq_true h]; rfl
    · rw [decide_eq_false (fun h' => h ((key_order _ _ (hd j) (hd k) t ht).1 h')), decide_eq_false h]; rfl

end Cert.ReferenceIdeal.Knn

end
-- ==== Proof.RefValue.lean ====
/- The reference's results in terms of its arguments: the positions listed in each row of the squared distances of the
   embedded points, and the scaled squared lengths of the differences to the points gathered there. -/
module

public import proofs.«01_k».proof.Proof.RefGather
public import proofs.«01_k».proof.Proof.RefTopK

@[expose] public section

set_option maxRecDepth 16384

noncomputable section

namespace Cert.ReferenceIdeal.Knn

open Cert.ReferenceIdeal.Gen Cert.ReferenceIdeal.Value
open Idealize.ShloMosaic Idealize.ShloMosaic.TcCoe Idealize.SL.Sem Idealize.ShloMosaic.StableHlo Cert.Knn

variable (V : Valuation τ sig (Elt Ideal))

/-- The embedded points as the reference computes them. -/
def embedded (x : FVec Ideal S4x2048x256 .f32) (w1 : FVec Ideal S256x256 .f32) (b1 : FVec Ideal S256 .f32)
    (w2 : FVec Ideal S256x256 .f32) (b2 : FVec Ideal S256 .f32) (w3 : FVec Ideal S256x256 .f32) (b3 : FVec Ideal S256 .f32) :
    FVec Ideal S4x2048x256 .f32 :=
  layer (rectified (layer (rectified (layer x w1 b1)) w2 b2)) w3 b3

theorem v16_eq : res_main_v16 V
    = embedded (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) := rfl

theorem v18_eq : res_main_v18 V = scale (V (Proc.devRef .tc main_arg1)) := rfl

theorem v20_eq : res_main_v20 V = sums (res_main_v16 V) := rfl

theorem v34_eq : res_main_v34 V = keys (res_main_v16 V) (res_main_v20 V) (res_main_v18 V) := rfl

/-- The positions listed, end to end. -/
def listed (z : FVec Ideal S4x2048x256 .f32) (t : FVec Ideal S_ .f32) : IVec S4x10240 32 :=
  shapeCast S4x10240 (topAt (keys z (sums z) t)) shapeCasts_S4x2048x5_S4x10240

theorem v35_eq : res_main_v35 V = listed (res_main_v16 V) (res_main_v18 V) := by
  rw [res_main_v35, v34_eq, v20_eq]
  rfl

theorem v5_eq : res_main_call3_v5 V = wrapped (res_main_v35 V) := rfl

/-- The differences from each point to the points listed for it. -/
def differences (z : FVec Ideal S4x2048x256 .f32) (p : IVec S4x10240 32) : FVec Ideal S4x10240x256 .f32 :=
  subf (gathered z (wrapped p)) (repeated z)

theorem minus_at {s : Shape} (a b : FVec Ideal s .f32) (j : s.Idx) : subf a b j = a j - b j := rfl

theorem differences_apply (z : FVec Ideal S4x2048x256 .f32) (p : IVec S4x10240 32) (j : S4x10240x256.Idx) :
    differences z p j = gathered z (wrapped p) j - repeated z j :=
  minus_at _ _ j

theorem v43_eq : res_main_v43 V = differences (res_main_v16 V) (res_main_v35 V) := by
  rw [res_main_v43, v5_eq]
  rfl

end Cert.ReferenceIdeal.Knn

end
-- ==== Proof.KernelHost.lean ====
/- The host operations around the two kernels: what they put in each array, from the contents before them. -/
module

public import proofs.«01_k».proof.Proof.Gen.KernelIdeal.Frame
public import Idealize.ShloMosaic.PureOps.Ideal

@[expose] public section

set_option maxRecDepth 16384

noncomputable section

namespace Cert.KernelIdeal.Knn

open Cert.KernelIdeal.Gen
open Idealize.ShloMosaic Idealize.ShloMosaic.TcCoe Idealize.ShloMosaic.StableHlo Idealize.SL.Sem

variable (U : Valuation τ sig (Elt Ideal))

/-! ## Before the first kernel: the points as rows, the weights transposed, the biases as rows -/

theorem host_v0 : StableHlo.after hostOps0 U (Proc.devRef .tc main_v0)
    = shapeCast S8192x256 (U (Proc.devRef .tc main_arg0)) shapeCasts_S4x2048x256_S8192x256 := by
  after_results
  rfl
theorem host_v1 : StableHlo.after hostOps0 U (Proc.devRef .tc main_v1)
    = transpose S256x256 [1, 0] (U (Proc.devRef .tc main_arg2)) transposes_S256x256_S256x256_1_0 := by
  after_results
theorem host_v2 : StableHlo.after hostOps0 U (Proc.devRef .tc main_v2)
    = shapeCast S1x256 (U (Proc.devRef .tc main_arg3)) shapeCasts_S256_S1x256 := by
  after_results
  rfl
theorem host_v3 : StableHlo.after hostOps0 U (Proc.devRef .tc main_v3)
    = transpose S256x256 [1, 0] (U (Proc.devRef .tc main_arg4)) transposes_S256x256_S256x256_1_0 := by
  after_results
theorem host_v4 : StableHlo.after hostOps0 U (Proc.devRef .tc main_v4)
    = shapeCast S1x256 (U (Proc.devRef .tc main_arg5)) shapeCasts_S256_S1x256 := by
  after_results
  rfl
theorem host_v5 : StableHlo.after hostOps0 U (Proc.devRef .tc main_v5)
    = transpose S256x256 [1, 0] (U (Proc.devRef .tc main_arg6)) transposes_S256x256_S256x256_1_0 := by
  after_results
theorem host_v6 : StableHlo.after hostOps0 U (Proc.devRef .tc main_v6)
    = shapeCast S1x256 (U (Proc.devRef .tc main_arg7)) shapeCasts_S256_S1x256 := by
  after_results
  rfl

/-! ## Between the kernels: the embedded points by batch, and their square norms as a column and as a row -/

/-- The square norms of the points `z`. -/
def norms (z : FVec Ideal S4x2048x256 .f32) : FVec Ideal S4x2048 .f32 :=
  Host.reduceAdd (mulf z z) (constant S_ .f32 0x00000000#32) reducesTo_S4x2048x256_S4x2048_d2 h_S_

theorem host_v8 : StableHlo.after hostOps1 U (Proc.devRef .tc main_v8)
    = shapeCast S4x2048x256 (U (Proc.devRef .tc main_v7)) shapeCasts_S8192x256_S4x2048x256 := by
  after_results
  rfl
theorem host_v11 : StableHlo.after hostOps1 U (Proc.devRef .tc main_v11)
    = shapeCast S4x2048x1 (norms (shapeCast S4x2048x256 (U (Proc.devRef .tc main_v7)) shapeCasts_S8192x256_S4x2048x256))
        shapeCasts_S4x2048_S4x2048x1 := by
  after_results
  rfl
theorem host_v12 : StableHlo.after hostOps1 U (Proc.devRef .tc main_v12)
    = shapeCast S4x1x2048 (norms (shapeCast S4x2048x256 (U (Proc.devRef .tc main_v7)) shapeCasts_S8192x256_S4x2048x256))
        shapeCasts_S4x2048_S4x1x2048 := by
  after_results
  rfl

/-! ## After the second kernel: the scale, the scaled distances, and the pairs of positions -/

/-- The scale: the exponential of the temperature cut off at −5 and 5. -/
def scale (a : FVec Ideal S_ .f32) : FVec Ideal S_ .f32 :=
  Host.exp (minimumf (constant S_ .f32 0x40A00000#32) (maximumf (constant S_ .f32 0xC0A00000#32) a))

/-- The first result from the positions found. -/
def pairs (p : IVec S4x2048x5 32) : IVec S4x10240x2 32 :=
  concatenate S4x10240x2 2
    [⟨S4x10240x1, broadcastInDim S4x10240x1 ![0, 1] bcast_S4x10240_S4x10240x1_0_1
        (shapeCast S4x10240 p shapeCasts_S4x2048x5_S4x10240)⟩,
     ⟨S4x10240x1, broadcastInDim S4x10240x1 ![0, 1] bcast_S4x10240_S4x10240x1_0_1
        (shapeCast S4x10240 (broadcastInDim S4x2048x5 ![0, 1, 2] bcast_S1x2048x1_S4x2048x5_0_1_2
          (broadcastInDim S1x2048x1 ![1] bcast_S2048_S1x2048x1_1 (iotaInDim S2048 32 0))) shapeCasts_S4x2048x5_S4x10240)⟩]
    concatenates_S4x10240x1_S4x10240x1_S4x10240x2_d2

/-- The second result from the distances found and the scale. -/
def scaled (d : FVec Ideal S4x2048x5 .f32) (s : FVec Ideal S_ .f32) : FVec Ideal S4x2048x5 .f32 :=
  mulf (Host.negf d) (broadcastInDim S4x2048x5 ![] bcast_S_S4x2048x5 s)

theorem host_cst_0 : StableHlo.after hostOps2 U (Proc.devRef .tc main_cst_0) = constant (F := Ideal) S_ .f32 0xC0A00000#32 := by
  after_results
theorem host_cst_1 : StableHlo.after hostOps2 U (Proc.devRef .tc main_cst_1) = constant (F := Ideal) S_ .f32 0x40A00000#32 := by
  after_results
theorem host_v14 : StableHlo.after hostOps2_1 U (Proc.devRef .tc main_v14)
    = minimumf (F := Ideal) (s := S_) (φ := .f32) (U (Proc.devRef .tc main_cst_1))
        (maximumf (F := Ideal) (s := S_) (φ := .f32) (U (Proc.devRef .tc main_cst_0)) (U (Proc.devRef .tc main_arg1))) := by
  after_results
  rfl
theorem host_v18 : StableHlo.after hostOps2_2 U (Proc.devRef .tc main_v18)
    = scaled (U (Proc.devRef .tc main_v13_0)) (Host.exp (F := Ideal) (φ := .f32) (s := S_) (U (Proc.devRef .tc main_v14))) := by
  after_results
  rfl
theorem host_v26 : StableHlo.after hostOps2_2 U (Proc.devRef .tc main_v26) = pairs (U (Proc.devRef .tc main_v13_1)) := by
  after_results
  rfl

end Cert.KernelIdeal.Knn

end
-- ==== Proof.MlpBlock.lean ====
/- What one grid point of the first kernel computes: the embedding of each row of its block. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Knn

open Idealize.ShloMosaic Cert.Knn

/-- The block the first kernel stores, at row `r` and coordinate `o`; the weights come transposed. -/
theorem mlp_pay (x : FVec Ideal S2048x256 .f32) (w1 : FVec Ideal S256x256 .f32) (b1 : FVec Ideal S1x256 .f32)
    (w2 : FVec Ideal S256x256 .f32) (b2 : FVec Ideal S1x256 .f32) (w3 : FVec Ideal S256x256 .f32) (b3 : FVec Ideal S1x256 .f32)
    (r : Fin 2048) (o : Fin 256) :
    Gen.k0_pay1 (F := Ideal) x w1 b1 w2 b2 w3 b3 (ix2 r o)
      = embed (fun o k => w1 (ix2 k o)) (fun o => b1 (ix2 0 o)) (fun o k => w2 (ix2 k o)) (fun o => b2 (ix2 0 o))
          (fun o k => w3 (ix2 k o)) (fun o => b3 (ix2 0 o)) (fun k => x (ix2 r k)) o := by
  pointwise [Gen.k0_pay1, embed, lin, relu]

end Cert.KernelIdeal.Knn

end
-- ==== Proof.Region0.lean ====
/- The first kernel's result array: each row is the embedding of the row of the points. A grid point's block is 2048
   consecutive rows; the four blocks cover the array. -/
module

public import proofs.«01_k».proof.Proof.Gen.KernelIdeal.Frame
public import proofs.«01_k».proof.Proof.MlpBlock

@[expose] public section

set_option maxRecDepth 16384

noncomputable section

namespace Cert.KernelIdeal.Knn

open Cert.KernelIdeal.Gen
open Idealize.ShloMosaic Idealize.ShloMosaic.TcCoe Idealize.SL.Sem Cert.Knn
open Idealize.ShloMosaic.Pipeline (Dat)

variable (V : (c : Dev nD) → (b : Ref sig .tc) → Buf (Elt Ideal) ((c : Thread nD τ).loc b))

theorem zeros_two : (![0, 0] : Fin 2 → Nat) = fun _ => 0 := funext fun a => by fin_cases a <;> rfl

/-! ## The block indices at a grid point -/

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = 0 ∧ win0_1.index t (1 : Fin 2) = 0 :=
  (by decide +kernel : ∀ t : Fin grid0.N, _)
theorem index0_2 : ∀ t : Fin cfg0.N, win0_2.index t (0 : Fin 2) = 0 ∧ win0_2.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 2) = 0 ∧ win0_6.index t (1 : Fin 2) = 0 :=
  (by decide +kernel : ∀ t : Fin grid0.N, _)
theorem index0_7 : ∀ t : Fin cfg0.N, win0_7.index t (0 : Fin 2) = t.val ∧ win0_7.index t (1 : Fin 2) = 0 :=
  (by decide +kernel : ∀ t : Fin grid0.N, _)

/-! ## Where a block's index lies in its array -/

/-- The array's row of row `r` of point `t`'s block. -/
def row0 (t : Fin cfg0.N) (r : Fin 2048) : Fin 8192 :=
  ⟨t.val * 2048 + r.val, by have h : t.val < 4 := t.isLt; have := r.isLt; omega⟩

theorem emb0_0 (t : Fin cfg0.N) (r : Fin 2048) (k : Fin 256) :
    ((cfg0.win 0).blk t).view.emb (ix2 r k) = ix2 (row0 t r) k := by
  obtain ⟨e0, e1⟩ := index0_0 t
  funext a; apply Fin.ext
  match a with
  | ⟨0, _⟩ => show win0_0.index t (0 : Fin 2) * 2048 + 1 * r.val = t.val * 2048 + r.val; omega
  | ⟨1, _⟩ => show win0_0.index t (1 : Fin 2) * 256 + 1 * k.val = k.val; omega

theorem emb0_7 (t : Fin cfg0.N) (r : Fin 2048) (k : Fin 256) :
    ((cfg0.win 7).blk t).view.emb (ix2 r k) = ix2 (row0 t r) k := by
  obtain ⟨e0, e1⟩ := index0_7 t
  funext a; apply Fin.ext
  match a with
  | ⟨0, _⟩ => show win0_7.index t (0 : Fin 2) * 2048 + 1 * r.val = t.val * 2048 + r.val; omega
  | ⟨1, _⟩ => show win0_7.index t (1 : Fin 2) * 256 + 1 * k.val = k.val; omega

/-! ## The input blocks -/

theorem block0_0 (c : Dev nD) (t : Fin cfg0.N) (r : Fin 2048) (k : Fin 256) :
    iblk0 V c 0 t (ix2 r k) = V c main_v0 (ix2 (row0 t r) k) := by
  show V c main_v0 (((cfg0.win 0).blk t).view.emb (ix2 r k)) = _
  rw [emb0_0]

theorem block0_1 (c : Dev nD) (t : Fin cfg0.N) : iblk0 V c 1 t = V c main_v1 := by
  obtain ⟨e0, e1⟩ := index0_1 t
  funext j
  refine congrArg (V c main_v1) (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem block0_2 (c : Dev nD) (t : Fin cfg0.N) : iblk0 V c 2 t = V c main_v2 := by
  obtain ⟨e0, e1⟩ := index0_2 t
  funext j
  refine congrArg (V c main_v2) (funext fun a => Fin.ext ?_)
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem block0_3 (c : Dev nD) (t : Fin cfg0.N) : iblk0 V c 3 t = V c main_v3 := by
  obtain ⟨e0, e1⟩ := index0_3 t
  funext j
  refine congrArg (V c main_v3) (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem block0_4 (c : Dev nD) (t : Fin cfg0.N) : iblk0 V c 4 t = V c main_v4 := by
  obtain ⟨e0, e1⟩ := index0_4 t
  funext j
  refine congrArg (V c main_v4) (funext fun a => Fin.ext ?_)
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem block0_5 (c : Dev nD) (t : Fin cfg0.N) : iblk0 V c 5 t = V c main_v5 := by
  obtain ⟨e0, e1⟩ := index0_5 t
  funext j
  refine congrArg (V c main_v5) (funext fun a => Fin.ext ?_)
  match a with
  | ⟨0, _⟩ => show win0_5.index t (0 : Fin 2) * 256 + 1 * (j 0).val = (j 0).val; omega
  | ⟨1, _⟩ => show win0_5.index t (1 : Fin 2) * 256 + 1 * (j 1).val = (j 1).val; omega

theorem block0_6 (c : Dev nD) (t : Fin cfg0.N) : iblk0 V c 6 t = V c main_v6 := by
  obtain ⟨e0, e1⟩ := index0_6 t
  funext j
  refine congrArg (V c main_v6) (funext fun a => Fin.ext ?_)
  match a with
  | ⟨0, _⟩ => show win0_6.index t (0 : Fin 2) * 1 + 1 * (j 0).val = (j 0).val; omega
  | ⟨1, _⟩ => show win0_6.index t (1 : Fin 2) * 256 + 1 * (j 1).val = (j 1).val; omega

/-! ## The array -/

/-- Every row's embedding, from the points and the transposed weights. -/
def embedAll (x : FVec Ideal S8192x256 .f32) (w1 : FVec Ideal S256x256 .f32) (b1 : FVec Ideal S1x256 .f32)
    (w2 : FVec Ideal S256x256 .f32) (b2 : FVec Ideal S1x256 .f32) (w3 : FVec Ideal S256x256 .f32)
    (b3 : FVec Ideal S1x256 .f32) : FVec Ideal S8192x256 .f32 := fun i =>
  embed (fun o k => w1 (ix2 k o)) (fun o => b1 (ix2 0 o)) (fun o k => w2 (ix2 k o)) (fun o => b2 (ix2 0 o))
    (fun o k => w3 (ix2 k o)) (fun o => b3 (ix2 0 o)) (fun k => x (ix2 (i 0) k)) (i 1)

/-- What the body leaves in the output's buffer is its payload of the input blocks. -/
theorem out0_eq (x : FVec Ideal S2048x256 .f32) (w1 : FVec Ideal S256x256 .f32) (b1 : FVec Ideal S1x256 .f32)
    (w2 : FVec Ideal S256x256 .f32) (b2 : FVec Ideal S1x256 .f32) (w3 : FVec Ideal S256x256 .f32) (b3 : FVec Ideal S1x256 .f32) :
    out0_7 (F := Ideal) x w1 b1 w2 b2 w3 b3 = k0_pay1 (F := Ideal) x w1 b1 w2 b2 w3 b3 := by
  unfold out0_7
  rw [View.canon_unit_zero zeros_two, View.ld_unit_zero zeros_two, View.ld_unit_zero zeros_two, View.ld_unit_zero zeros_two,
    View.ld_unit_zero zeros_two, View.ld_unit_zero zeros_two, View.ld_unit_zero zeros_two, View.ld_unit_zero zeros_two]

/-- A point writes back its block of the embeddings. -/
theorem flushed0 (c : Dev nD) (t : Fin cfg0.N) :
    (dat0 V c).flushed 7 t = ((cfg0.win 7).blk t).view.read (Elt Ideal)
      (embedAll (V c main_v0) (V c main_v1) (V c main_v2) (V c main_v3) (V c main_v4) (V c main_v5) (V c main_v6)) := by
  show (cfg0.win 7).cut (grid0.coords t) ((dat0 V c).after 7 t) = _
  rw [after0_7, out0_eq, block0_1, block0_2, block0_3, block0_4, block0_5, block0_6]
  funext j
  obtain ⟨r, o, rfl⟩ : ∃ (r : Fin 2048) (o : Fin 256), j = ix2 r o := ⟨j 0, j 1, eq_ix2 j⟩
  show k0_pay1 (F := Ideal) (iblk0 V c 0 t) (V c main_v1) (V c main_v2) (V c main_v3) (V c main_v4) (V c main_v5) (V c main_v6)
      (ix2 r o) = embedAll _ _ _ _ _ _ _ (((cfg0.win 7).blk t).view.emb (ix2 r o))
  rw [emb0_7, mlp_pay]
  simp only [block0_0]
  rfl

/-- Every row is in a block. -/
theorem cover0 (i : S8192x256.Idx) :
    ∃ t : Fin cfg0.N, (cfg0.win 7).flush t = true ∧ i ∈ ((cfg0.win 7).blk t).view.set := by
  have hi : (i 0).val < 8192 := (i 0).isLt
  let t : Fin cfg0.N := ⟨(i 0).val / 2048, show _ < 4 by omega⟩
  refine ⟨t, flush0_7 t, ?_⟩
  have e : ((cfg0.win 7).blk t).view.emb (ix2 (⟨(i 0).val % 2048, by omega⟩ : Fin 2048) (i 1)) = i := by
    refine (emb0_7 t _ (i 1)).trans ((congrArg₂ ix2 (Fin.ext ?_) rfl).trans (eq_ix2 i).symm)
    show (i 0).val / 2048 * 2048 + (i 0).val % 2048 = (i 0).val
    omega
  exact e ▸ ((cfg0.win 7).blk t).view.emb_mem_set _

/-- The first kernel's result. -/
theorem region0 (c : Dev nD) : (dat0 V c).arrAt 7 cfg0.N
    = embedAll (V c main_v0) (V c main_v1) (V c main_v2) (V c main_v3) (V c main_v4) (V c main_v5) (V c main_v6) :=
  (dat0 V c).arrAt_eq_of_cover 7 _ (fun t _ => flushed0 V c t) cover0

end Cert.KernelIdeal.Knn

end
-- ==== Proof.KnnBlock.lean ====
/- What one grid point of the second kernel computes: the block of squared distances, and five rounds over it, each
   taking every row's least entry and its first position and overwriting that position with `+∞`. -/
module

public import proofs.«01_k».proof.Proof.Gen.KernelIdeal.Skeleton
public import proofs.«01_k».proof.Proof.Spec
public import proofs.«01_k».proof.Proof.RowPick
public import proofs.«01_k».proof.Proof.Constants
public import Idealize.ShloMosaic.Lib.Pointwise

@[expose] public section

set_option maxRecDepth 16384

noncomputable section

namespace Cert.KernelIdeal.Knn

open Idealize.ShloMosaic Cert.Knn

/-- A row of a block. -/
abbrev row (cur : FVec Ideal S1024x2048 .f32) (r : Fin 1024) : Fin 2048 → EReal := fun j => cur (ix2 r j)

/-- Every row's candidates for the position: the position (an entry of `pos`) where the row equals its least entry, 2048
    elsewhere. -/
def candidates (pos cur : FVec Ideal S1024x2048 .f32) : FVec Ideal S1024x2048 .f32 :=
  select (cmpf .oeq cur (broadcastTo S1024x2048 (Gen.k1_pay9 cur) Gen.broadcasts_S1024x1_S1024x2048)) pos
    (broadcast S1024x2048 (Scalar.ofBits (F := Ideal) .f32 0x45000000#32))

/-- The block after a round: `+∞` at the position taken in each row. -/
def knocked (pos cur : FVec Ideal S1024x2048 .f32) : FVec Ideal S1024x2048 .f32 :=
  Gen.k1_pay10 pos cur (candidates pos cur)

/-- The block when round `n` begins. -/
def blockAt (pos d : FVec Ideal S1024x2048 .f32) : ℕ → FVec Ideal S1024x2048 .f32
  | 0 => d
  | n + 1 => knocked pos (blockAt pos d n)

/-- The column of least entries, at a row. -/
theorem min_pay (cur : FVec Ideal S1024x2048 .f32) (r : Fin 1024) : Gen.k1_pay9 cur (ix2 r 0) = rowMin (row cur r) := by
  pointwise [Gen.k1_pay9, rowMin]
  rw [word_top]

/-- The position block. -/
theorem iota_pay (r : Fin 1024) (j : Fin 2048) : Gen.k1_pay3 (F := Ideal) (ix2 r j) = ((j.val : ℝ) : EReal) := by
  pointwise [Gen.k1_pay3]
  have h := j.isLt
  show (((BitVec.ofNat 32 j.val).toInt : ℝ) : EReal) = _
  rw [BitVec.toInt_eq_toNat_of_lt (by rw [BitVec.toNat_ofNat]; omega), BitVec.toNat_ofNat, Nat.mod_eq_of_lt (by omega),
    Int.cast_natCast]

/-- The overwriting step, for any positions and candidates. -/
theorem overwrite_pay (pos cur cand : FVec Ideal S1024x2048 .f32) (r : Fin 1024) (j : Fin 2048) :
    Gen.k1_pay10 pos cur cand (ix2 r j)
      = if pos (ix2 r j) = Gen.k1_pay9 cand (ix2 r 0) then ⊤ else cur (ix2 r j) := by
  pointwise [Gen.k1_pay10]
  rw [word_top]

/-- The candidates, for any positions. -/
theorem candidates_apply (pos cur : FVec Ideal S1024x2048 .f32) (r : Fin 1024) (j : Fin 2048) :
    candidates pos cur (ix2 r j)
      = if cur (ix2 r j) = Gen.k1_pay9 cur (ix2 r 0) then pos (ix2 r j) else ((2048 : ℝ) : EReal) := by
  pointwise [candidates]
  rw [word_2048]

section Position

variable (pos : FVec Ideal S1024x2048 .f32) (hpos : ∀ r j, pos (ix2 r j) = ((j.val : ℝ) : EReal))
include hpos

/-- The least candidate of a row is the first position of its least entry. -/
theorem arg_pay (cur : FVec Ideal S1024x2048 .f32) (r : Fin 1024) :
    Gen.k1_pay9 (candidates pos cur) (ix2 r 0) = rowArg (row cur r) := by
  rw [min_pay, show row (candidates pos cur) r = fun j => if row cur r j = rowMin (row cur r) then ((j.val : ℝ) : EReal)
    else ((2048 : ℝ) : EReal) from funext fun j => by rw [row, candidates_apply, min_pay, hpos]]
  rfl

/-- A round of the block is a round of every row. -/
theorem knocked_row (cur : FVec Ideal S1024x2048 .f32) (r : Fin 1024) : row (knocked pos cur) r = knock (row cur r) := by
  funext j
  rw [row, knocked, overwrite_pay, arg_pay pos hpos, hpos]
  rfl

theorem blockAt_row (d : FVec Ideal S1024x2048 .f32) (r : Fin 1024) (n : ℕ) :
    row (blockAt pos d n) r = rowAt (row d r) n := by
  induction n with
  | zero => rfl
  | succ n ih => rw [blockAt, knocked_row pos hpos, ih]; rfl

end Position

/-- The block of squared distances. -/
theorem dist_pay (zi : FVec Ideal S1x1024x256 .f32) (zj : FVec Ideal S1x2048x256 .f32) (si : FVec Ideal S1x1024x1 .f32)
    (sj : FVec Ideal S1x1x2048 .f32) (r : Fin 1024) (j : Fin 2048) :
    Gen.k1_pay2 zi zj si sj (ix2 r j)
      = max (si (ix3 0 r 0) + sj (ix3 0 0 j) - ((2 : ℝ) : EReal) * ∑ k : Fin 256, zi (ix3 0 r k) * zj (ix3 0 j k)) 0 := by
  pointwise [Gen.k1_pay2]
  rw [word_two]

end Cert.KernelIdeal.Knn

end
-- ==== Proof.KnnColumns.lean ====
/- The two blocks a grid point of the second kernel stores, column by column: column `q` holds what round `q` takes. -/
module

public import proofs.«01_k».proof.Proof.KnnBlock

@[expose] public section

set_option maxRecDepth 16384

noncomputable section

namespace Cert.KernelIdeal.Knn

open Idealize.ShloMosaic Cert.Knn

/-- Five columns side by side. -/
theorem five_columns (a b c d e : FVec Ideal S1024x1 .f32) (r : Fin 1024) (q : Fin 5) :
    concatenate S1024x5 1 [⟨S1024x1, a⟩, ⟨S1024x1, b⟩, ⟨S1024x1, c⟩, ⟨S1024x1, d⟩, ⟨S1024x1, e⟩]
      Gen.concatenates_S1024x1_S1024x1_S1024x1_S1024x1_S1024x1_S1024x5_d1 (ix2 r q)
      = ![a (ix2 r 0), b (ix2 r 0), c (ix2 r 0), d (ix2 r 0), e (ix2 r 0)] q := by
  fin_cases q <;> pointwise <;> rfl

/-- A block with a leading unit axis added. -/
theorem with_unit_axis {α : Type} (v : S1024x5.Idx → α) (h : S1024x5.ShapeCasts S1x1024x5) (r : Fin 1024) (q : Fin 5) :
    shapeCast S1x1024x5 v h (ix3 0 r q) = v (ix2 r q) := by
  pointwise

/-! The stored blocks in terms of the rounds' blocks: each later round's values are the same step on the block before. -/

section Stored

variable (pos d : FVec Ideal S1024x2048 .f32)

/-- The values block: column `n` is the column of least entries when round `n` begins. -/
theorem values_block :
    Gen.k1_pay18 pos (Gen.k1_pay9 (blockAt pos d 0)) (blockAt pos d 1) (Gen.k1_pay9 (blockAt pos d 1))
        (candidates pos (blockAt pos d 1))
      = shapeCast S1x1024x5 (concatenate S1024x5 1 [⟨S1024x1, Gen.k1_pay9 (blockAt pos d 0)⟩,
          ⟨S1024x1, Gen.k1_pay9 (blockAt pos d 1)⟩, ⟨S1024x1, Gen.k1_pay9 (blockAt pos d 2)⟩,
          ⟨S1024x1, Gen.k1_pay9 (blockAt pos d 3)⟩, ⟨S1024x1, Gen.k1_pay9 (blockAt pos d 4)⟩]
          Gen.concatenates_S1024x1_S1024x1_S1024x1_S1024x1_S1024x1_S1024x5_d1) Gen.shapeCasts_S1024x5_S1x1024x5 := rfl

/-- The positions block: column `n` is the column of least candidates when round `n` begins. -/
theorem positions_block :
    Gen.k1_pay19 pos (Gen.k1_pay9 (candidates pos (blockAt pos d 0))) (blockAt pos d 1) (candidates pos (blockAt pos d 1))
      = concatenate S1024x5 1 [⟨S1024x1, Gen.k1_pay9 (candidates pos (blockAt pos d 0))⟩,
          ⟨S1024x1, Gen.k1_pay9 (candidates pos (blockAt pos d 1))⟩, ⟨S1024x1, Gen.k1_pay9 (candidates pos (blockAt pos d 2))⟩,
          ⟨S1024x1, Gen.k1_pay9 (candidates pos (blockAt pos d 3))⟩, ⟨S1024x1, Gen.k1_pay9 (candidates pos (blockAt pos d 4))⟩]
          Gen.concatenates_S1024x1_S1024x1_S1024x1_S1024x1_S1024x1_S1024x5_d1 := rfl

/-- Five columns that are a function of the column's number. -/
theorem vec_five (f : ℕ → EReal) (q : Fin 5) : ![f 0, f 1, f 2, f 3, f 4] q = f q.val := by
  fin_cases q <;> rfl

variable (hpos : ∀ r j, pos (ix2 r j) = ((j.val : ℝ) : EReal))
include hpos

/-- Column `q` of the values block is what round `q` takes, row by row. -/
theorem values_stored (r : Fin 1024) (q : Fin 5) :
    Gen.k1_pay18 pos (Gen.k1_pay9 (blockAt pos d 0)) (blockAt pos d 1) (Gen.k1_pay9 (blockAt pos d 1))
        (candidates pos (blockAt pos d 1)) (ix3 0 r q)
      = rowMin (rowAt (row d r) q.val) := by
  have h : ∀ n, Gen.k1_pay9 (blockAt pos d n) (ix2 r 0) = rowMin (rowAt (row d r) n) := fun n => by
    rw [min_pay, blockAt_row pos hpos]
  rw [values_block, with_unit_axis, five_columns]
  simp only [h]
  exact vec_five (fun n => rowMin (rowAt (row d r) n)) q

/-- Column `q` of the positions block is the position round `q` takes, row by row. -/
theorem positions_stored (r : Fin 1024) (q : Fin 5) :
    Gen.k1_pay19 pos (Gen.k1_pay9 (candidates pos (blockAt pos d 0))) (blockAt pos d 1) (candidates pos (blockAt pos d 1))
        (ix2 r q)
      = rowArg (rowAt (row d r) q.val) := by
  have h : ∀ n, Gen.k1_pay9 (candidates pos (blockAt pos d n)) (ix2 r 0) = rowArg (rowAt (row d r) n) := fun n => by
    rw [arg_pay pos hpos, blockAt_row pos hpos]
  rw [positions_block, five_columns]
  simp only [h]
  exact vec_five (fun n => rowArg (rowAt (row d r) n)) q

end Stored

/-- The stored positions, as words. -/
theorem words_pay (v : FVec Ideal S1024x5 .f32) (r : Fin 1024) (q : Fin 5) :
    Gen.k1_pay1 v (ix3 0 r q) = Ideal.fptosi 32 (v (ix2 r q)) := by
  rw [Gen.k1_pay1, with_unit_axis]
  rfl

end Cert.KernelIdeal.Knn

end
-- ==== Proof.Region1.lean ====
/- The second kernel's result arrays: at batch `b`, point `i` and column `q`, what round `q` takes of the row of squared
   distances from point `i` to every point of the batch — the distance and the position. A grid point's block is 1024
   consecutive points of a batch; the eight blocks cover the arrays. -/
module

public import proofs.«01_k».proof.Proof.Gen.KernelIdeal.Frame
public import proofs.«01_k».proof.Proof.KnnColumns

@[expose] public section

set_option maxRecDepth 16384

noncomputable section

namespace Cert.KernelIdeal.Knn

open Cert.KernelIdeal.Gen
open Idealize.ShloMosaic Idealize.ShloMosaic.TcCoe Idealize.SL.Sem Cert.Knn
open Idealize.ShloMosaic.Pipeline (Dat)

variable (V : (c : Dev nD) → (b : Ref sig .tc) → Buf (Elt Ideal) ((c : Thread nD τ).loc b))

theorem zeros_three : (![0, 0, 0] : Fin 3 → Nat) = fun _ => 0 := funext fun a => by fin_cases a <;> rfl

/-! ## The block indices at a grid point -/

theorem index1_0 : ∀ t : Fin cfg1.N, win1_0.index t (0 : Fin 3) = t.val / 2 ∧ win1_0.index t (1 : Fin 3) = t.val % 2
    ∧ win1_0.index t (2 : Fin 3) = 0 := (by decide +kernel : ∀ t : Fin grid1.N, _)
theorem index1_1 : ∀ t : Fin cfg1.N, win1_1.index t (0 : Fin 3) = t.val / 2 ∧ win1_1.index t (1 : Fin 3) = 0
    ∧ win1_1.index t (2 : Fin 3) = 0 := (by decide +kernel : ∀ t : Fin grid1.N, _)
theorem index1_2 : ∀ t : Fin cfg1.N, win1_2.index t (0 : Fin 3) = t.val / 2 ∧ win1_2.index t (1 : Fin 3) = t.val % 2
    ∧ win1_2.index t (2 : Fin 3) = 0 := (by decide +kernel : ∀ t : Fin grid1.N, _)
theorem index1_3 : ∀ t : Fin cfg1.N, win1_3.index t (0 : Fin 3) = t.val / 2 ∧ win1_3.index t (1 : Fin 3) = 0
    ∧ win1_3.index t (2 : Fin 3) = 0 := (by decide +kernel : ∀ t : Fin grid1.N, _)
theorem index1_4 : ∀ t : Fin cfg1.N, win1_4.index t (0 : Fin 3) = t.val / 2 ∧ win1_4.index t (1 : Fin 3) = t.val % 2
    ∧ win1_4.index t (2 : Fin 3) = 0 := (by decide +kernel : ∀ t : Fin grid1.N, _)
theorem index1_5 : ∀ t : Fin cfg1.N, win1_5.index t (0 : Fin 3) = t.val / 2 ∧ win1_5.index t (1 : Fin 3) = t.val % 2
    ∧ win1_5.index t (2 : Fin 3) = 0 := (by decide +kernel : ∀ t : Fin grid1.N, _)

/-! ## Where a block's index lies in its array -/

/-- The batch of a grid point. -/
def batch1 (t : Fin cfg1.N) : Fin 4 := ⟨t.val / 2, by have h : t.val < 8 := t.isLt; omega⟩

/-- The point of the batch that row `r` of a grid point's block is. -/
def row1 (t : Fin cfg1.N) (r : Fin 1024) : Fin 2048 :=
  ⟨t.val % 2 * 1024 + r.val, by have := r.isLt; omega⟩

theorem block1_0 (c : Dev nD) (t : Fin cfg1.N) (r : Fin 1024) (k : Fin 256) :
    iblk1 V c 0 t (ix3 0 r k) = V c main_v8 (ix3 (batch1 t) (row1 t r) k) := by
  obtain ⟨e0, e1, e2⟩ := index1_0 t
  refine congrArg (V c main_v8) (funext fun a => Fin.ext ?_)
  match a with
  | ⟨0, _⟩ => show win1_0.index t (0 : Fin 3) * 1 + 1 * 0 = t.val / 2; omega
  | ⟨1, _⟩ => show win1_0.index t (1 : Fin 3) * 1024 + 1 * r.val = t.val % 2 * 1024 + r.val; omega
  | ⟨2, _⟩ => show win1_0.index t (2 : Fin 3) * 256 + 1 * k.val = k.val; omega

theorem block1_1 (c : Dev nD) (t : Fin cfg1.N) (j : Fin 2048) (k : Fin 256) :
    iblk1 V c 1 t (ix3 0 j k) = V c main_v8 (ix3 (batch1 t) j k) := by
  obtain ⟨e0, e1, e2⟩ := index1_1 t
  refine congrArg (V c main_v8) (funext fun a => Fin.ext ?_)
  match a with
  | ⟨0, _⟩ => show win1_1.index t (0 : Fin 3) * 1 + 1 * 0 = t.val / 2; omega
  | ⟨1, _⟩ => show win1_1.index t (1 : Fin 3) * 2048 + 1 * j.val = j.val; omega
  | ⟨2, _⟩ => show win1_1.index t (2 : Fin 3) * 256 + 1 * k.val = k.val; omega

theorem block1_2 (c : Dev nD) (t : Fin cfg1.N) (r : Fin 1024) :
    iblk1 V c 2 t (ix3 0 r 0) = V c main_v11 (ix3 (batch1 t) (row1 t r) 0) := by
  obtain ⟨e0, e1, e2⟩ := index1_2 t
  refine congrArg (V c main_v11) (funext fun a => Fin.ext ?_)
  match a with
  | ⟨0, _⟩ => show win1_2.index t (0 : Fin 3) * 1 + 1 * 0 = t.val / 2; omega
  | ⟨1, _⟩ => show win1_2.index t (1 : Fin 3) * 1024 + 1 * r.val = t.val % 2 * 1024 + r.val; omega
  | ⟨2, _⟩ => show win1_2.index t (2 : Fin 3) * 1 + 1 * 0 = 0; omega

theorem block1_3 (c : Dev nD) (t : Fin cfg1.N) (j : Fin 2048) :
    iblk1 V c 3 t (ix3 0 0 j) = V c main_v12 (ix3 (batch1 t) 0 j) := by
  obtain ⟨e0, e1, e2⟩ := index1_3 t
  refine congrArg (V c main_v12) (funext fun a => Fin.ext ?_)
  match a with
  | ⟨0, _⟩ => show win1_3.index t (0 : Fin 3) * 1 + 1 * 0 = t.val / 2; omega
  | ⟨1, _⟩ => show win1_3.index t (1 : Fin 3) * 1 + 1 * 0 = 0; omega
  | ⟨2, _⟩ => show win1_3.index t (2 : Fin 3) * 2048 + 1 * j.val = j.val; omega

theorem emb1_4 (t : Fin cfg1.N) (r : Fin 1024) (q : Fin 5) :
    ((cfg1.win 4).blk t).view.emb (ix3 0 r q) = ix3 (batch1 t) (row1 t r) q := by
  obtain ⟨e0, e1, e2⟩ := index1_4 t
  funext a; apply Fin.ext
  match a with
  | ⟨0, _⟩ => show win1_4.index t (0 : Fin 3) * 1 + 1 * 0 = t.val / 2; omega
  | ⟨1, _⟩ => show win1_4.index t (1 : Fin 3) * 1024 + 1 * r.val = t.val % 2 * 1024 + r.val; omega
  | ⟨2, _⟩ => show win1_4.index t (2 : Fin 3) * 5 + 1 * q.val = q.val; omega

theorem emb1_5 (t : Fin cfg1.N) (r : Fin 1024) (q : Fin 5) :
    ((cfg1.win 5).blk t).view.emb (ix3 0 r q) = ix3 (batch1 t) (row1 t r) q := by
  obtain ⟨e0, e1, e2⟩ := index1_5 t
  funext a; apply Fin.ext
  match a with
  | ⟨0, _⟩ => show win1_5.index t (0 : Fin 3) * 1 + 1 * 0 = t.val / 2; omega
  | ⟨1, _⟩ => show win1_5.index t (1 : Fin 3) * 1024 + 1 * r.val = t.val % 2 * 1024 + r.val; omega
  | ⟨2, _⟩ => show win1_5.index t (2 : Fin 3) * 5 + 1 * q.val = q.val; omega

/-! ## The arrays -/

/-- The squared distances of point `i` of batch `b` to the batch's points, from the points and their square norms laid
    out as a column and as a row. -/
def distances (z : FVec Ideal S4x2048x256 .f32) (sc : FVec Ideal S4x2048x1 .f32) (sr : FVec Ideal S4x1x2048 .f32)
    (b : Fin 4) (i j : Fin 2048) : EReal :=
  max (sc (ix3 b i 0) + sr (ix3 b 0 j) - ((2 : ℝ) : EReal) * ∑ k : Fin 256, z (ix3 b i k) * z (ix3 b j k)) 0

/-- The distances the rounds take. -/
def nearest (z : FVec Ideal S4x2048x256 .f32) (sc : FVec Ideal S4x2048x1 .f32) (sr : FVec Ideal S4x1x2048 .f32) :
    FVec Ideal S4x2048x5 .f32 := fun i => rowMin (rowAt (distances z sc sr (i 0) (i 1)) (i 2).val)

/-- The positions the rounds take, as words. -/
def nearestAt (z : FVec Ideal S4x2048x256 .f32) (sc : FVec Ideal S4x2048x1 .f32) (sr : FVec Ideal S4x1x2048 .f32) :
    IVec S4x2048x5 32 := fun i => Ideal.fptosi 32 (rowArg (rowAt (distances z sc sr (i 0) (i 1)) (i 2).val))

/-- A block's row of distances is the array's. -/
theorem distances_row (c : Dev nD) (t : Fin cfg1.N) (r : Fin 1024) :
    row (k1_pay2 (F := Ideal) (iblk1 V c 0 t) (iblk1 V c 1 t) (iblk1 V c 2 t) (iblk1 V c 3 t)) r
      = distances (V c main_v8) (V c main_v11) (V c main_v12) (batch1 t) (row1 t r) := by
  funext j
  refine (dist_pay _ _ _ _ r j).trans ?_
  simp only [block1_0, block1_1, block1_2, block1_3]
  rfl

/-- What the body leaves in the distances' buffer, from the input blocks, and in the positions' buffer. -/
theorem out4_eq (zi : FVec Ideal S1x1024x256 .f32) (zj : FVec Ideal S1x2048x256 .f32) (si : FVec Ideal S1x1024x1 .f32)
    (sj : FVec Ideal S1x1x2048 .f32) (r : Fin 1024) (q : Fin 5) :
    out1_4 (F := Ideal) zi zj si sj (ix3 0 r q) = rowMin (rowAt (row (k1_pay2 (F := Ideal) zi zj si sj) r) q.val) := by
  unfold_out out1_4
  rw [View.canon_unit_zero zeros_three, View.ld_unit_zero zeros_three, View.ld_unit_zero zeros_three,
    View.ld_unit_zero zeros_three, View.ld_unit_zero zeros_three]
  exact values_stored _ _ iota_pay r q

theorem out5_eq (zi : FVec Ideal S1x1024x256 .f32) (zj : FVec Ideal S1x2048x256 .f32) (si : FVec Ideal S1x1024x1 .f32)
    (sj : FVec Ideal S1x1x2048 .f32) (r : Fin 1024) (q : Fin 5) :
    out1_5 (F := Ideal) zi zj si sj (ix3 0 r q)
      = Ideal.fptosi 32 (rowArg (rowAt (row (k1_pay2 (F := Ideal) zi zj si sj) r) q.val)) := by
  unfold_out out1_5
  rw [View.canon_unit_zero zeros_three, View.ld_unit_zero zeros_three, View.ld_unit_zero zeros_three,
    View.ld_unit_zero zeros_three, View.ld_unit_zero zeros_three, words_pay]
  exact congrArg (Ideal.fptosi 32) (positions_stored _ _ iota_pay r q)

/-- A grid point writes back its block of the nearest distances, -/
theorem flushed4 (c : Dev nD) (t : Fin cfg1.N) :
    (dat1 V c).flushed 4 t = ((cfg1.win 4).blk t).view.read (Elt Ideal) (nearest (V c main_v8) (V c main_v11) (V c main_v12)) := by
  show (cfg1.win 4).cut (grid1.coords t) ((dat1 V c).after 4 t) = _
  rw [after1_4]
  funext j
  obtain ⟨r, q, rfl⟩ : ∃ (r : Fin 1024) (q : Fin 5), j = ix3 0 r q :=
    ⟨j 1, j 2, (eq_ix3 j).trans (congrArg (fun a => ix3 a (j 1) (j 2)) (Subsingleton.elim (α := Fin 1) _ _))⟩
  show out1_4 (F := Ideal) _ _ _ _ (ix3 0 r q) = nearest _ _ _ (((cfg1.win 4).blk t).view.emb (ix3 0 r q))
  rw [emb1_4, out4_eq, distances_row]
  rfl

/-- and its block of their positions. -/
theorem flushed5 (c : Dev nD) (t : Fin cfg1.N) :
    (dat1 V c).flushed 5 t = ((cfg1.win 5).blk t).view.read (Elt Ideal) (nearestAt (V c main_v8) (V c main_v11) (V c main_v12)) := by
  show (cfg1.win 5).cut (grid1.coords t) ((dat1 V c).after 5 t) = _
  rw [after1_5]
  funext j
  obtain ⟨r, q, rfl⟩ : ∃ (r : Fin 1024) (q : Fin 5), j = ix3 0 r q :=
    ⟨j 1, j 2, (eq_ix3 j).trans (congrArg (fun a => ix3 a (j 1) (j 2)) (Subsingleton.elim (α := Fin 1) _ _))⟩
  show out1_5 (F := Ideal) _ _ _ _ (ix3 0 r q) = nearestAt _ _ _ (((cfg1.win 5).blk t).view.emb (ix3 0 r q))
  rw [emb1_5, out5_eq, distances_row]
  rfl

/-- Every index of the results is a block's: the batch and the half of its points name the grid point. -/
theorem exists_point (i : S4x2048x5.Idx) :
    ∃ (t : Fin cfg1.N) (r : Fin 1024), ix3 (batch1 t) (row1 t r) (i 2) = i := by
  have h0 : (i 0).val < 4 := (i 0).isLt
  have h1 : (i 1).val < 2048 := (i 1).isLt
  refine ⟨⟨(i 0).val * 2 + (i 1).val / 1024, show _ < 8 by omega⟩, ⟨(i 1).val % 1024, by omega⟩, ?_⟩
  refine Eq.trans ?_ (eq_ix3 i).symm
  refine congrArg₂ (fun a b => ix3 a b (i 2)) (Fin.ext ?_) (Fin.ext ?_)
  · show ((i 0).val * 2 + (i 1).val / 1024) / 2 = (i 0).val
    omega
  · show ((i 0).val * 2 + (i 1).val / 1024) % 2 * 1024 + (i 1).val % 1024 = (i 1).val
    omega

theorem cover4 (i : S4x2048x5.Idx) :
    ∃ t : Fin cfg1.N, (cfg1.win 4).flush t = true ∧ i ∈ ((cfg1.win 4).blk t).view.set := by
  obtain ⟨t, r, e⟩ := exists_point i
  exact ⟨t, flush1_4 t, ((emb1_4 t r (i 2)).trans e) ▸ ((cfg1.win 4).blk t).view.emb_mem_set _⟩

theorem cover5 (i : S4x2048x5.Idx) :
    ∃ t : Fin cfg1.N, (cfg1.win 5).flush t = true ∧ i ∈ ((cfg1.win 5).blk t).view.set := by
  obtain ⟨t, r, e⟩ := exists_point i
  exact ⟨t, flush1_5 t, ((emb1_5 t r (i 2)).trans e) ▸ ((cfg1.win 5).blk t).view.emb_mem_set _⟩

/-- The second kernel's results. -/
theorem region1_distances (c : Dev nD) :
    (dat1 V c).arrAt 4 cfg1.N = nearest (V c main_v8) (V c main_v11) (V c main_v12) :=
  (dat1 V c).arrAt_eq_of_cover 4 _ (fun t _ => flushed4 V c t) cover4

theorem region1_positions (c : Dev nD) :
    (dat1 V c).arrAt 5 cfg1.N = nearestAt (V c main_v8) (V c main_v11) (V c main_v12) :=
  (dat1 V c).arrAt_eq_of_cover 5 _ (fun t _ => flushed5 V c t) cover5

end Cert.KernelIdeal.Knn

end
-- ==== Proof.KernelValue.lean ====
/- The program's two results in terms of its arguments: the distances and the positions the rounds take in each row of
   the squared distances of the embedded points, the distances scaled and the positions paired with their rows. -/
module

public import proofs.«01_k».proof.Proof.KernelHost
public import proofs.«01_k».proof.Proof.Region0
public import proofs.«01_k».proof.Proof.Region1

@[expose] public section

set_option maxRecDepth 16384

noncomputable section

namespace Cert.KernelIdeal.Knn

open Cert.KernelIdeal.Gen
open Idealize.ShloMosaic Idealize.ShloMosaic.TcCoe Idealize.SL.Sem Cert.Knn

/-! ## The arrays between the kernels, read at an index -/

section Arrays

variable (x : FVec Ideal S4x2048x256 .f32) (w1 : FVec Ideal S256x256 .f32) (b1 : FVec Ideal S256 .f32)
  (w2 : FVec Ideal S256x256 .f32) (b2 : FVec Ideal S256 .f32) (w3 : FVec Ideal S256x256 .f32) (b3 : FVec Ideal S256 .f32)

/-- The embedded points of the argument arrays. -/
def pointsOf : Fin 4 → Fin 2048 → Fin 256 → EReal :=
  points (fun b i k => x (ix3 b i k)) (fun o k => w1 (ix2 o k)) (fun o => b1 (ix1 o)) (fun o k => w2 (ix2 o k))
    (fun o => b2 (ix1 o)) (fun o k => w3 (ix2 o k)) (fun o => b3 (ix1 o))

/-- Rows of points as points by batch. -/
theorem by_batch (v : FVec Ideal S8192x256 .f32) (b : Fin 4) (i : Fin 2048) (k : Fin 256) :
    shapeCast S4x2048x256 v shapeCasts_S8192x256_S4x2048x256 (ix3 b i k)
      = v (ix2 ⟨b.val * 2048 + i.val, by omega⟩ k) := by
  pointwise

/-- Points by batch as rows of points. -/
theorem as_rows (b : Fin 4) (i : Fin 2048) (k : Fin 256) :
    shapeCast S8192x256 x shapeCasts_S4x2048x256_S8192x256 (ix2 ⟨b.val * 2048 + i.val, by omega⟩ k) = x (ix3 b i k) := by
  pointwise

theorem turned (w : FVec Ideal S256x256 .f32) (o k : Fin 256) :
    transpose S256x256 [1, 0] w transposes_S256x256_S256x256_1_0 (ix2 k o) = w (ix2 o k) := by
  pointwise

theorem as_row (b : FVec Ideal S256 .f32) (o : Fin 256) :
    shapeCast S1x256 b shapeCasts_S256_S1x256 (ix2 0 o) = b (ix1 o) := by
  pointwise

/-- The array the first kernel leaves, by batch, holds the embedded points. -/
theorem embedded (b : Fin 4) (i : Fin 2048) (k : Fin 256) :
    shapeCast S4x2048x256 (embedAll (shapeCast S8192x256 x shapeCasts_S4x2048x256_S8192x256)
        (transpose S256x256 [1, 0] w1 transposes_S256x256_S256x256_1_0) (shapeCast S1x256 b1 shapeCasts_S256_S1x256)
        (transpose S256x256 [1, 0] w2 transposes_S256x256_S256x256_1_0) (shapeCast S1x256 b2 shapeCasts_S256_S1x256)
        (transpose S256x256 [1, 0] w3 transposes_S256x256_S256x256_1_0) (shapeCast S1x256 b3 shapeCasts_S256_S1x256))
        shapeCasts_S8192x256_S4x2048x256 (ix3 b i k)
      = pointsOf x w1 b1 w2 b2 w3 b3 b i k := by
  rw [by_batch]
  have e : ∀ w : FVec Ideal S256x256 .f32, (fun o k : Fin 256 =>
      transpose S256x256 [1, 0] w transposes_S256x256_S256x256_1_0 (ix2 k o)) = fun o k => w (ix2 o k) :=
    fun w => funext fun o => funext fun k => turned w o k
  simp only [embedAll, as_row]
  show embed _ _ _ _ _ _ (fun k => shapeCast S8192x256 x _ (ix2 ⟨b.val * 2048 + i.val, _⟩ k)) k = _
  simp only [as_rows]
  rw [e w1, e w2, e w3]
  rfl

/-- The square norms laid out as a column and as a row. -/
theorem norms_column (z : FVec Ideal S4x2048x256 .f32) (b : Fin 4) (i : Fin 2048) :
    shapeCast S4x2048x1 (norms z) shapeCasts_S4x2048_S4x2048x1 (ix3 b i 0) = sqn (fun k => z (ix3 b i k)) := by
  pointwise [norms, sqn]

theorem norms_row (z : FVec Ideal S4x2048x256 .f32) (b : Fin 4) (i : Fin 2048) :
    shapeCast S4x1x2048 (norms z) shapeCasts_S4x2048_S4x1x2048 (ix3 b 0 i) = sqn (fun k => z (ix3 b i k)) := by
  pointwise [norms, sqn]

/-- The second kernel's distances are the squared distances of the points. -/
theorem distances_points (z : FVec Ideal S4x2048x256 .f32) (p : Fin 4 → Fin 2048 → Fin 256 → EReal)
    (hz : ∀ b i k, z (ix3 b i k) = p b i k) (b : Fin 4) (i : Fin 2048) :
    distances z (shapeCast S4x2048x1 (norms z) shapeCasts_S4x2048_S4x2048x1)
      (shapeCast S4x1x2048 (norms z) shapeCasts_S4x2048_S4x1x2048) b i = fun j => dist (p b i) (p b j) := by
  funext j
  simp only [distances, norms_column, norms_row, hz]
  rfl

end Arrays

/-! ## The results -/

/-- The distances taken in the rows of the points' squared distances. -/
def takenDist (p : Fin 4 → Fin 2048 → Fin 256 → EReal) : FVec Ideal S4x2048x5 .f32 := fun i =>
  rowMin (rowAt (fun j => dist (p (i 0) (i 1)) (p (i 0) j)) (i 2).val)

/-- The positions taken in the rows of the points' squared distances. -/
def takenAt (p : Fin 4 → Fin 2048 → Fin 256 → EReal) : IVec S4x2048x5 32 := fun i =>
  Ideal.fptosi 32 (rowArg (rowAt (fun j => dist (p (i 0) (i 1)) (p (i 0) j)) (i 2).val))

variable (m : (ℓ : Loc nD τ sig) → Buf (Elt Ideal) ℓ) (ρ : Dev nD → PrngReg) (c : Dev nD)

/-- The embedded points of a device's arguments. -/
def pts : Fin 4 → Fin 2048 → Fin 256 → EReal :=
  pointsOf (m ((c.tc : Thread nD τ).loc main_arg0)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7))

/-- The points the second kernel is given. -/
theorem given_points (b : Fin 4) (i : Fin 2048) (k : Fin 256) :
    (V3 m ρ c main_v8 : FVec Ideal S4x2048x256 .f32) (ix3 b i k) = pts m c b i k := by
  have h7 : W2 m ρ c (Proc.devRef .tc main_v7) = (dat0 (V1 m ρ) c).arrAt 7 cfg0.N := W2_arr m ρ c 7
  have h8 := host_v8 (W2 m ρ c)
  rw [h7, region0] at h8
  have h0 := host_v0 (W0 m ρ c)
  have h1 := host_v1 (W0 m ρ c)
  have h2 := host_v2 (W0 m ρ c)
  have h3 := host_v3 (W0 m ρ c)
  have h4 := host_v4 (W0 m ρ c)
  have h5 := host_v5 (W0 m ρ c)
  have h6 := host_v6 (W0 m ρ c)
  rw [show V1 m ρ c main_v0 = _ from h0, show V1 m ρ c main_v1 = _ from h1, show V1 m ρ c main_v2 = _ from h2,
    show V1 m ρ c main_v3 = _ from h3, show V1 m ρ c main_v4 = _ from h4, show V1 m ρ c main_v5 = _ from h5,
    show V1 m ρ c main_v6 = _ from h6] at h8
  rw [show V3 m ρ c main_v8 = _ from h8]
  exact embedded _ _ _ _ _ _ _ b i k

/-- The square norms the second kernel is given are those of the points it is given. -/
theorem given_column : V3 m ρ c main_v11
    = shapeCast S4x2048x1 (norms (V3 m ρ c main_v8)) shapeCasts_S4x2048_S4x2048x1 := by
  rw [show V3 m ρ c main_v8 = _ from host_v8 (W2 m ρ c)]
  exact host_v11 (W2 m ρ c)

theorem given_row : V3 m ρ c main_v12
    = shapeCast S4x1x2048 (norms (V3 m ρ c main_v8)) shapeCasts_S4x2048_S4x1x2048 := by
  rw [show V3 m ρ c main_v8 = _ from host_v8 (W2 m ρ c)]
  exact host_v12 (W2 m ρ c)

theorem left_dist : W4 m ρ c (Proc.devRef .tc main_v13_0) = takenDist (pts m c) := by
  rw [show W4 m ρ c (Proc.devRef .tc main_v13_0) = _ from W4_arr m ρ c 4, region1_distances, given_column, given_row]
  funext i
  exact congrArg (fun d => rowMin (rowAt d (i 2).val)) (distances_points _ _ (given_points m ρ c) (i 0) (i 1))

theorem left_at : W4 m ρ c (Proc.devRef .tc main_v13_1) = takenAt (pts m c) := by
  rw [show W4 m ρ c (Proc.devRef .tc main_v13_1) = _ from W4_arr m ρ c 5, region1_positions, given_column, given_row]
  funext i
  exact congrArg (fun d => Ideal.fptosi 32 (rowArg (rowAt d (i 2).val)))
    (distances_points _ _ (given_points m ρ c) (i 0) (i 1))

/-- The first result. -/
theorem result_pairs : W7 m ρ c (Proc.devRef .tc main_v26) = pairs (takenAt (pts m c)) := by
  rw [show W7 m ρ c (Proc.devRef .tc main_v26) = _ from host_v26 (W6 m ρ c), W6_of m ρ c main_v13_1 (by decide),
    W5_of m ρ c main_v13_1 (by decide), left_at]

/-- The second result. -/
theorem result_scaled : W7 m ρ c (Proc.devRef .tc main_v18)
    = scaled (takenDist (pts m c)) (scale (m ((c.tc : Thread nD τ).loc main_arg1))) := by
  have h14 : W6 m ρ c (Proc.devRef .tc main_v14) = _ := host_v14 (W5 m ρ c)
  rw [show W5 m ρ c (Proc.devRef .tc main_cst_1) = _ from host_cst_1 (W4 m ρ c),
    show W5 m ρ c (Proc.devRef .tc main_cst_0) = _ from host_cst_0 (W4 m ρ c), W5_args m ρ c main_arg1 (by decide)] at h14
  rw [show W7 m ρ c (Proc.devRef .tc main_v18) = _ from host_v18 (W6 m ρ c), W6_of m ρ c main_v13_0 (by decide),
    W5_of m ρ c main_v13_0 (by decide), left_dist, h14]
  rfl

end Cert.KernelIdeal.Knn

end
-- ==== Proof.Equation.lean ====
/- Both programs' results agree where the arguments are real. In each row of the squared distances both list the same five
   positions; the distance found at each is the squared length of the difference to the point there. -/
module

public import proofs.«01_k».proof.Proof.RefValue
public import proofs.«01_k».proof.Proof.KernelValue

@[expose] public section

set_option maxRecDepth 16384

noncomputable section

namespace Cert.Knn

open Idealize.ShloMosaic Idealize.ShloMosaic.TcCoe Idealize.SL.Sem
open Cert.KernelIdeal.Knn (takenAt takenDist scaled)
open Cert.ReferenceIdeal (S4x2048x256 S_ S4x10240)
open Cert.ReferenceIdeal.Knn (keys sums topAt listed differences differences_apply logprobs scale_apply keys_apply topAt_picked gathered_apply
  repeated_apply end_to_end logprobs_apply gathered repeated wrapped)

section Equal

variable (p : Fin 4 → Fin 2048 → Fin 256 → EReal) (hp : ∀ n i k, IsReal (p n i k))

/-- The squared distances from a point to all. -/
def away (n : Fin 4) (i j : Fin 2048) : EReal := dist (p n i) (p n j)

include hp in
theorem away_real (n : Fin 4) (i j : Fin 2048) : IsReal (away p n i j) :=
  (dist_eq (p n i) (p n j) (hp n i) (hp n j)).2

include hp in
theorem away_ne_top (n : Fin 4) (i j : Fin 2048) : away p n i j ≠ ⊤ := by
  obtain ⟨r, hr⟩ := away_real p hp n i j
  rw [hr]
  exact EReal.coe_ne_top r

theorem takenAt_apply (n : Fin 4) (i : Fin 2048) (q : Fin 5) :
    takenAt p (ix3 n i q) = BitVec.ofNat 32 (picked (away p n i) q.val).val := by
  have h : takenAt p (ix3 n i q) = Ideal.fptosi 32 (rowArg (rowAt (away p n i) q.val)) := rfl
  rw [h, rowArg_eq, word_of_position _ (Fin.isLt _)]
  rfl

include hp in
theorem takenDist_apply (n : Fin 4) (i : Fin 2048) (q : Fin 5) :
    takenDist p (ix3 n i q) = sqdiff (p n i) (p n (picked (away p n i) q.val)) := by
  have h : takenDist p (ix3 n i q) = rowMin (rowAt (away p n i) q.val) := rfl
  rw [h, rowMin_rowAt _ (away_ne_top p hp n i) _ (by omega)]
  exact (dist_eq _ _ (hp n i) (hp n _)).1

variable (z : FVec Ideal S4x2048x256 .f32) (hz : ∀ n i k, z (ix3 n i k) = p n i k) (t : FVec Ideal S_ .f32)
  (r : ℝ) (hr : 0 < r) (ht : t ix0 = (r : EReal))

include hp hz hr ht in
/-- The positions listed are the positions taken. -/
theorem positions (n : Fin 4) (i : Fin 2048) (q : Fin 5) :
    topAt (keys z (sums z) t) (ix3 n i q) = BitVec.ofNat 32 (picked (away p n i) q.val).val :=
  topAt_picked (away p n i) (away_real p hp n i) r hr _ n i
    (fun j => by rw [keys_apply z p hz t n i j, ht]; rfl) q

include hp hz hr ht in
theorem positions_eq : topAt (keys z (sums z) t) = takenAt p := by
  funext j
  rw [eq_ix3 j]
  exact (positions p hp z hz t r hr ht _ _ _).trans (takenAt_apply p _ _ _).symm

/-- The position listed at a place of the end-to-end list. -/
def spot (n : Fin 4) (e : Fin 10240) : Fin 2048 :=
  picked (away p n ⟨e.val / 5, by omega⟩) (e.val % 5)

theorem spot_row (n : Fin 4) (i : Fin 2048) (q : Fin 5) :
    spot p n ⟨i.val * 5 + q.val, by omega⟩ = picked (away p n i) q.val := by
  have hi : (⟨(i.val * 5 + q.val) / 5, by omega⟩ : Fin 2048) = i := Fin.ext (by show (i.val * 5 + q.val) / 5 = i.val; omega)
  have hq : (i.val * 5 + q.val) % 5 = q.val := by omega
  show picked (away p n ⟨(i.val * 5 + q.val) / 5, _⟩) ((i.val * 5 + q.val) % 5) = _
  rw [hi, hq]

include hp hz hr ht in
theorem listed_spot (n : Fin 4) (e : Fin 10240) : listed z t (ix2 n e) = BitVec.ofNat 32 (spot p n e).val := by
  have he : e = ⟨(⟨e.val / 5, by omega⟩ : Fin 2048).val * 5 + (⟨e.val % 5, by omega⟩ : Fin 5).val, by
      show e.val / 5 * 5 + e.val % 5 < 10240; omega⟩ := Fin.ext (by show e.val = e.val / 5 * 5 + e.val % 5; omega)
  have h := end_to_end (topAt (keys z (sums z) t)) n ⟨e.val / 5, by omega⟩ ⟨e.val % 5, by omega⟩
  rw [← he, positions p hp z hz t r hr ht] at h
  exact h

include hp hz hr ht in
/-- A difference at a place of the list. -/
theorem difference (n : Fin 4) (i : Fin 2048) (q : Fin 5) (k : Fin 256) :
    differences z (listed z t) (ix3 n ⟨i.val * 5 + q.val, by omega⟩ k) = p n (picked (away p n i) q.val) k - p n i k := by
  rw [differences_apply, gathered_apply (listed z t) (spot p) (listed_spot p hp z hz t r hr ht) z, repeated_apply, spot_row, hz, hz]

theorem scaled_apply (d : FVec Ideal Cert.KernelIdeal.S4x2048x5 .f32) (n : Fin 4) (i : Fin 2048) (q : Fin 5) :
    scaled d t (ix3 n i q) = -(d (ix3 n i q)) * t ix0 := by
  pointwise [scaled]

include hp hz hr ht in
/-- The scaled squared lengths are the scaled distances. -/
theorem logprobs_at (n : Fin 4) (i : Fin 2048) (q : Fin 5) :
    logprobs (differences z (listed z t)) t (ix3 n i q) = scaled (takenDist p) t (ix3 n i q) := by
  rw [logprobs_apply, scaled_apply, takenDist_apply p hp, sqdiff]
  simp only [difference p hp z hz t r hr ht]

include hp hz hr ht in
theorem logprobs_eq : logprobs (differences z (listed z t)) t = scaled (takenDist p) t := by
  funext j
  rw [eq_ix3 j]
  exact logprobs_at p hp z hz t r hr ht _ _ _

end Equal

end Cert.Knn

end
-- ==== Proof.Outcome.lean ====
/- The reference's two results, as its run leaves them, are the kernel's results of the same real arguments. -/
module

public import proofs.«01_k».proof.Proof.Equation
public import proofs.«01_k».proof.Proof.PreRead

@[expose] public section

set_option maxRecDepth 16384

noncomputable section

namespace Cert.ReferenceIdeal.Knn

open Cert.ReferenceIdeal.Gen Cert.ReferenceIdeal.Value
open Idealize.ShloMosaic Idealize.ShloMosaic.TcCoe Idealize.SL.Sem Idealize.ShloMosaic.StableHlo Cert.Knn

/-- The first result from the positions listed end to end. -/
def paired (u : IVec S4x10240 32) : IVec S4x10240x2 32 :=
  concatenate S4x10240x2 2
    [⟨S4x10240x1, broadcastInDim S4x10240x1 ![0, 1] bcast_S4x10240_S4x10240x1_0_1 u⟩,
     ⟨S4x10240x1, broadcastInDim S4x10240x1 ![0, 1] bcast_S4x10240_S4x10240x1_0_1
        (shapeCast S4x10240 (broadcastInDim S4x2048x5 ![0, 1, 2] bcast_S1x2048x1_S4x2048x5_0_1_2
          (broadcastInDim S1x2048x1 ![1] bcast_S2048_S1x2048x1_1 (iotaInDim S2048 32 0))) shapeCasts_S4x2048x5_S4x10240)⟩]
    concatenates_S4x10240x1_S4x10240x1_S4x10240x2_d2

theorem paired_eq (a : IVec S4x2048x5 32) :
    paired (shapeCast S4x10240 a shapeCasts_S4x2048x5_S4x10240) = Cert.KernelIdeal.Knn.pairs a := rfl

theorem scale_eq (a : FVec Ideal S_ .f32) : scale a = Cert.KernelIdeal.Knn.scale a := rfl

section Args

variable (x : FVec Ideal S4x2048x256 .f32) (a : FVec Ideal S_ .f32) (w1 : FVec Ideal S256x256 .f32)
  (b1 : FVec Ideal S256 .f32) (w2 : FVec Ideal S256x256 .f32) (b2 : FVec Ideal S256 .f32)
  (w3 : FVec Ideal S256x256 .f32) (b3 : FVec Ideal S256 .f32)
  (h : Cert.Pre_finite_inputs.fn (F := Ideal) x a w1 b1 w2 b2 w3 b3 = fun _ => 1#1)

include h in
/-- The embedded points are real. -/
theorem points_real (n : Fin 4) (i : Fin 2048) (k : Fin 256) :
    IsReal (Cert.KernelIdeal.Knn.pointsOf x w1 b1 w2 b2 w3 b3 n i k) := by
  obtain ⟨hx, h1, g1, h2, g2, h3, g3⟩ := pre_real x a w1 b1 w2 b2 w3 b3 h
  exact embed_real (fun o k => h1 _) (fun o => g1 _) (fun o k => h2 _) (fun o => g2 _) (fun o k => h3 _) (fun o => g3 _)
    (fun k => hx _) k

theorem embedded_apply (n : Fin 4) (i : Fin 2048) (k : Fin 256) :
    embedded x w1 b1 w2 b2 w3 b3 (ix3 n i k) = Cert.KernelIdeal.Knn.pointsOf x w1 b1 w2 b2 w3 b3 n i k :=
  layers_apply x w1 b1 w2 b2 w3 b3 n i k

include h in
theorem listed_pairs : paired (listed (embedded x w1 b1 w2 b2 w3 b3) (scale a))
    = Cert.KernelIdeal.Knn.pairs (Cert.KernelIdeal.Knn.takenAt (Cert.KernelIdeal.Knn.pointsOf x w1 b1 w2 b2 w3 b3)) := by
  obtain ⟨r, hr, ht⟩ := scale_pos (a ix0)
  rw [listed, paired_eq, positions_eq _ (points_real x a w1 b1 w2 b2 w3 b3 h) _ (embedded_apply x w1 b1 w2 b2 w3 b3) _ r hr
    ((scale_apply a ix0).trans ht)]

include h in
theorem logprobs_scaled : logprobs (differences (embedded x w1 b1 w2 b2 w3 b3)
      (listed (embedded x w1 b1 w2 b2 w3 b3) (scale a))) (scale a)
    = Cert.KernelIdeal.Knn.scaled (Cert.KernelIdeal.Knn.takenDist (Cert.KernelIdeal.Knn.pointsOf x w1 b1 w2 b2 w3 b3))
        (Cert.KernelIdeal.Knn.scale a) := by
  obtain ⟨r, hr, ht⟩ := scale_pos (a ix0)
  rw [← scale_eq]
  exact logprobs_eq _ (points_real x a w1 b1 w2 b2 w3 b3 h) _ (embedded_apply x w1 b1 w2 b2 w3 b3) _ r hr
    ((scale_apply a ix0).trans ht)

variable (V : Valuation τ sig (Elt Ideal)) (e0 : V (Proc.devRef .tc main_arg0) = x) (e1 : V (Proc.devRef .tc main_arg1) = a)
  (e2 : V (Proc.devRef .tc main_arg2) = w1) (e3 : V (Proc.devRef .tc main_arg3) = b1) (e4 : V (Proc.devRef .tc main_arg4) = w2)
  (e5 : V (Proc.devRef .tc main_arg5) = b2) (e6 : V (Proc.devRef .tc main_arg6) = w3) (e7 : V (Proc.devRef .tc main_arg7) = b3)

include h e0 e1 e2 e3 e4 e5 e6 e7 in
theorem first_result : paired (res_main_v35 V)
    = Cert.KernelIdeal.Knn.pairs (Cert.KernelIdeal.Knn.takenAt (Cert.KernelIdeal.Knn.pointsOf x w1 b1 w2 b2 w3 b3)) := by
  rw [v35_eq, v16_eq, v18_eq, e0, e1, e2, e3, e4, e5, e6, e7]
  exact listed_pairs x a w1 b1 w2 b2 w3 b3 h

include h e0 e1 e2 e3 e4 e5 e6 e7 in
theorem second_result : logprobs (res_main_v43 V) (res_main_v18 V)
    = Cert.KernelIdeal.Knn.scaled (Cert.KernelIdeal.Knn.takenDist (Cert.KernelIdeal.Knn.pointsOf x w1 b1 w2 b2 w3 b3))
        (Cert.KernelIdeal.Knn.scale a) := by
  rw [v43_eq, v35_eq, v16_eq, v18_eq, e0, e1, e2, e3, e4, e5, e6, e7]
  exact logprobs_scaled x a w1 b1 w2 b2 w3 b3 h

end Args

end Cert.ReferenceIdeal.Knn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Outcome
public import Idealize.ShloMosaic.Lib.Quiescent

@[expose] public section

set_option maxRecDepth 16384

noncomputable section

namespace Cert.Proof

open Idealize.ShloMosaic Idealize.ShloMosaic.TcCoe Idealize.SL.Sem

/-- The reference ends with its arguments unchanged and, owning no semaphore, with every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two programs' results agree. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Knn.pre_facts) := by
  intro m ρ m' ρ' hpre hagree
  refine ⟨fun c => Cert.KernelIdeal.Knn.pairs (Cert.KernelIdeal.Knn.takenAt (Cert.KernelIdeal.Knn.pts m c)),
    fun c => Cert.KernelIdeal.Knn.scaled (Cert.KernelIdeal.Knn.takenDist (Cert.KernelIdeal.Knn.pts m c))
      (Cert.KernelIdeal.Knn.scale (m ((c.tc : Thread Cert.KernelIdeal.nD Cert.KernelIdeal.τ).loc Cert.KernelIdeal.main_arg1))),
    ?_, ?_⟩
  · exact (θ_run Cert.KernelIdeal.defs _ _).mono
      (fun r h c => ⟨(h c).1.trans (Cert.KernelIdeal.Knn.result_pairs m ρ c),
        (h c).2.1.trans (Cert.KernelIdeal.Knn.result_scaled m ρ c), (h c).2.2⟩)
      (Cert.KernelIdeal.Knn.run (F := Ideal) m ρ)
  · refine (θ_run Cert.ReferenceIdeal.defs _ _).mono (fun r h c => ?_) (Cert.ReferenceIdeal.Value.run (F := Ideal) m' ρ')
    obtain ⟨e0, e1, e2, e3, e4, e5, e6, e7⟩ := hagree c
    exact ⟨(h c).1.trans (Cert.ReferenceIdeal.Knn.first_result _ _ _ _ _ _ _ _ (hpre c) (StableHlo.launchContents m' c)
        e0 e1 e2 e3 e4 e5 e6 e7),
      (h c).2.1.trans (Cert.ReferenceIdeal.Knn.second_result _ _ _ _ _ _ _ _ (hpre c) (StableHlo.launchContents m' c)
        e0 e1 e2 e3 e4 e5 e6 e7), (h c).2.2⟩

theorem claim : Cert.Claim :=
  ⟨Cert.Kernel.Gen.facts, Cert.KernelIdeal.Gen.facts, Cert.ReferenceIdeal.Gen.facts, Cert.Knn.pre_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    algebraic⟩

end Cert.Proof

end
